-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  IdealRules.named_const.Statement Cert.KernelIdeal.κ "rsqrt2" .f32 0x3F3504F3#32 (((Real.sqrt 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_v47) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S4096x1024 : Shape := ⟨2, ![4096, 1024]⟩
abbrev S4096x1x16 : Shape := ⟨3, ![4096, 1, 16]⟩
abbrev S1024 : Shape := ⟨1, ![1024]⟩
abbrev S1024x1024 : Shape := ⟨2, ![1024, 1024]⟩
abbrev S1x256x2x512 : Shape := ⟨4, ![1, 256, 2, 512]⟩
abbrev S65536x1024 : Shape := ⟨2, ![65536, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1024x1024 : S_.BroadcastsInDim S1024x1024 (![] : Fin 0 → Fin S1024x1024.rank)
  reducesTo_S1024x1024_S_d0_1 : S1024x1024.ReducesTo [0, 1] S_
  bcast_S_S1x256x2x512 : S_.BroadcastsInDim S1x256x2x512 (![] : Fin 0 → Fin S1x256x2x512.rank)
  reducesTo_S1x256x2x512_S_d0_1_2_3 : S1x256x2x512.ReducesTo [0, 1, 2, 3] S_

variable [Facts]

def fn_part1 {F : FTy → Type} [FloatOps F] (main_v13 : IVec S_ 1) (main_v16 : IVec S1x256x2x512 1) : IVec S_ 1 :=
  let main_c_5 : IVec S_ 1 := constantI S_ 1 1#1
  let main_v17 : IVec S_ 1 := (fun x v => Host.reduce IntOp.andi x v reducesTo_S1x256x2x512_S_d0_1_2_3 h_S_) main_v16 main_c_5
  let main_v18 : IVec S_ 1 := andi main_v13 main_v17
  main_v18

def fn {F : FTy → Type} [FloatOps F] (main_arg0 : FVec F S4096x1024 .f32) (main_arg1 : FVec F S4096x1x16 .f32) (main_arg2 : FVec F S1024 .f32) (main_arg3 : FVec F S1024x1024 .f32) (main_arg4 : FVec F S1x256x2x512 .f32) (main_arg5 : FVec F S65536x1024 .f32) (main_arg6 : FVec F S65536x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S1024 .f32 := Host.absf main_arg2
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024x1024 .f32 := Host.absf main_arg3
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1x256x2x512 .f32 := Host.absf main_arg4
  let main_cst_4 : FVec F S_ .f32 := constant S_ .f32 0x7F800000#32
  let main_v15 : FVec F S1x256x2x512 .f32 := broadcastInDim S1x256x2x512 ![] bcast_S_S1x256x2x512 main_cst_4
  let main_v16 : IVec S1x256x2x512 1 := cmpf .olt main_v14 main_v15
  fn_part1 (F := F) main_v13 main_v16
-- ==== Kernel.lean ====
abbrev S4096x1024 : Shape := ⟨2, ![4096, 1024]⟩
abbrev S4096x1x16 : Shape := ⟨3, ![4096, 1, 16]⟩
abbrev S1024 : Shape := ⟨1, ![1024]⟩
abbrev S1024x1024 : Shape := ⟨2, ![1024, 1024]⟩
abbrev S1x256x2x512 : Shape := ⟨4, ![1, 256, 2, 512]⟩
abbrev S65536x1024 : Shape := ⟨2, ![65536, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S1024x512 : Shape := ⟨2, ![1024, 512]⟩
abbrev S4096x512 : Shape := ⟨2, ![4096, 512]⟩
abbrev S1x256x1x512 : Shape := ⟨4, ![1, 256, 1, 512]⟩
abbrev S256x512 : Shape := ⟨2, ![256, 512]⟩
abbrev S4096x16 : Shape := ⟨2, ![4096, 16]⟩
abbrev S512x1024 : Shape := ⟨2, ![512, 1024]⟩
abbrev S512x512 : Shape := ⟨2, ![512, 512]⟩
abbrev S256x1024 : Shape := ⟨2, ![256, 1024]⟩
abbrev S512x16 : Shape := ⟨2, ![512, 16]⟩
abbrev S512x256 : Shape := ⟨2, ![512, 256]⟩
abbrev S512 : Shape := ⟨1, ![512]⟩
abbrev S512x1 : Shape := ⟨2, ![512, 1]⟩

abbrev nBuf : Space → Nat
  | .hbm => 29
  | .vmem => 11
  | .smem => 0
  | _ => 0

abbrev bufTy : (tb : Table) → Fin (tcTables nBuf tb) → BufTy
  | .hbm, ⟨0, _⟩ => ⟨S4096x1024, .f32⟩
  | .hbm, ⟨1, _⟩ => ⟨S4096x1x16, .f32⟩
  | .hbm, ⟨2, _⟩ => ⟨S1024, .f32⟩
  | .hbm, ⟨3, _⟩ => ⟨S1024x1024, .f32⟩
  | .hbm, ⟨4, _⟩ => ⟨S1x256x2x512, .f32⟩
  | .hbm, ⟨5, _⟩ => ⟨S65536x1024, .f32⟩
  | .hbm, ⟨6, _⟩ => ⟨S65536x1024, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1024, .f32⟩
  | .hbm, ⟨16, _⟩ => ⟨S4096x1024, .f32⟩
  | .hbm, ⟨17, _⟩ => ⟨S_, .f32⟩
  | .hbm, ⟨18, _⟩ => ⟨S4096x1024, .f32⟩
  | .hbm, ⟨19, _⟩ => ⟨S4096x1024, .f32⟩
  | .hbm, ⟨20, _⟩ => ⟨S1x1024, .f32⟩
  | .hbm, ⟨21, _⟩ => ⟨S4096x1024, .f32⟩
  | .hbm, ⟨22, _⟩ => ⟨S4096x1024, .f32⟩
  | .hbm, ⟨23, _⟩ => ⟨S1024x512, .f32⟩
  | .hbm, ⟨24, _⟩ => ⟨S4096x512, .f32⟩
  | .hbm, ⟨25, _⟩ => ⟨S1x256x1x512, .f32⟩
  | .hbm, ⟨26, _⟩ => ⟨S256x512, .f32⟩
  | .hbm, ⟨27, _⟩ => ⟨S4096x1024, .f32⟩
  | .hbm, ⟨28, _⟩ => ⟨S4096x16, .f32⟩
  | .local _ .vmem, ⟨0, _⟩ => ⟨S512x1024, .f32⟩
  | .local _ .vmem, ⟨1, _⟩ => ⟨S512x1024, .f32⟩
  | .local _ .vmem, ⟨2, _⟩ => ⟨S512x512, .f32⟩
  | .local _ .vmem, ⟨3, _⟩ => ⟨S512x512, .f32⟩
  | .local _ .vmem, ⟨4, _⟩ => ⟨S256x512, .f32⟩
  | .local _ .vmem, ⟨5, _⟩ => ⟨S256x1024, .f32⟩
  | .local _ .vmem, ⟨6, _⟩ => ⟨S256x1024, .f32⟩
  | .local _ .vmem, ⟨7, _⟩ => ⟨S512x1024, .f32⟩
  | .local _ .vmem, ⟨8, _⟩ => ⟨S512x1024, .f32⟩
  | .local _ .vmem, ⟨9, _⟩ => ⟨S512x16, .f32⟩
  | .local _ .vmem, ⟨10, _⟩ => ⟨S512x16, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_call0_v0 : Ref sig .tc := ⟨.hbm, 7, rfl⟩
abbrev main_call0_call0_cst : Ref sig .tc := ⟨.hbm, 8, rfl⟩
abbrev main_call0_call0_v1 : Ref sig .tc := ⟨.hbm, 9, rfl⟩
abbrev main_call0_call0_v2 : Ref sig .tc := ⟨.hbm, 10, rfl⟩
abbrev main_call0_v0 : Ref sig .tc := ⟨.hbm, 11, rfl⟩
abbrev main_call0_cst : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_cst_0 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_v12 : Ref sig .tc := ⟨.hbm, 25, rfl⟩
abbrev main_call0_v13 : Ref sig .tc := ⟨.hbm, 26, rfl⟩
abbrev main_v0_0 : Ref sig .tc := ⟨.hbm, 27, rfl⟩
abbrev main_v0_1 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x16 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== KernelIdeal.lean ====
variable {F : FTy → Type} [FloatOps F] [Named F]
def κ : String → Option EReal := fun
  | "rsqrt2" => some (((Real.sqrt 2)⁻¹ : ℝ) : EReal)
  | _ => none
-- ==== ReferenceIdeal.lean ====
abbrev S4096x1024 : Shape := ⟨2, ![4096, 1024]⟩
abbrev S4096x1x16 : Shape := ⟨3, ![4096, 1, 16]⟩
abbrev S1024 : Shape := ⟨1, ![1024]⟩
abbrev S1024x1024 : Shape := ⟨2, ![1024, 1024]⟩
abbrev S1x256x2x512 : Shape := ⟨4, ![1, 256, 2, 512]⟩
abbrev S65536x1024 : Shape := ⟨2, ![65536, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x2x512 : Shape := ⟨3, ![4096, 2, 512]⟩
abbrev S2x4096x512 : Shape := ⟨3, ![2, 4096, 512]⟩
abbrev S2x4096x1x256 : Shape := ⟨4, ![2, 4096, 1, 256]⟩
abbrev S1x4096x1x256 : Shape := ⟨4, ![1, 4096, 1, 256]⟩
abbrev S4096x1x256 : Shape := ⟨3, ![4096, 1, 256]⟩
abbrev S4096x1x16x1 : Shape := ⟨4, ![4096, 1, 16, 1]⟩
abbrev S4096x1x1x16 : Shape := ⟨4, ![4096, 1, 1, 16]⟩
abbrev S4096x1x16x16 : Shape := ⟨4, ![4096, 1, 16, 16]⟩
abbrev S1 : Shape := ⟨1, ![1]⟩
abbrev S1x1x1x1 : Shape := ⟨4, ![1, 1, 1, 1]⟩
abbrev S4096x1x16x1024 : Shape := ⟨4, ![4096, 1, 16, 1024]⟩
abbrev S4096x1x1 : Shape := ⟨3, ![4096, 1, 1]⟩
abbrev S4096x16 : Shape := ⟨2, ![4096, 16]⟩

abbrev nBuf : Space → Nat
  | .hbm => 114
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1x16, .f32⟩
  | .hbm, ⟨2, _⟩ => ⟨S1024, .f32⟩
  | .hbm, ⟨3, _⟩ => ⟨S1024x1024, .f32⟩
  | .hbm, ⟨4, _⟩ => ⟨S1x256x2x512, .f32⟩
  | .hbm, ⟨5, _⟩ => ⟨S65536x1024, .f32⟩
  | .hbm, ⟨6, _⟩ => ⟨S65536x1024, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1024, .f32⟩
  | .hbm, ⟨16, _⟩ => ⟨S4096x1024, .f32⟩
  | .hbm, ⟨17, _⟩ => ⟨S_, .f32⟩
  | .hbm, ⟨18, _⟩ => ⟨S4096x1024, .f32⟩
  | .hbm, ⟨19, _⟩ => ⟨S4096x1024, .f32⟩
  | .hbm, ⟨20, _⟩ => ⟨S1x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x2x512, .f32⟩
  | .hbm, ⟨25, _⟩ => ⟨S2x4096x512, .f32⟩
  | .hbm, ⟨26, _⟩ => ⟨S2x4096x1x256, .f32⟩
  | .hbm, ⟨27, _⟩ => ⟨S1x4096x1x256, .f32⟩
  | .hbm, ⟨28, _⟩ => ⟨S4096x1x256, .f32⟩
  | .hbm, ⟨29, _⟩ => ⟨S4096x1x16, .f32⟩
  | .hbm, ⟨30, _⟩ => ⟨S4096x1x16, .i32⟩
  | .hbm, ⟨31, _⟩ => ⟨S4096x1x16x1, .f32⟩
  | .hbm, ⟨32, _⟩ => ⟨S4096x1x1x16, .i32⟩
  | .hbm, ⟨33, _⟩ => ⟨S4096x1x1x16, .f32⟩
  | .hbm, ⟨34, _⟩ => ⟨S4096x1x16x16, .f32⟩
  | .hbm, ⟨35, _⟩ => ⟨S4096x1x16x16, .f32⟩
  | .hbm, ⟨36, _⟩ => ⟨S4096x1x16x16, .f32⟩
  | .hbm, ⟨37, _⟩ => ⟨S4096x1x256, .f32⟩
  | .hbm, ⟨38, _⟩ => ⟨S4096x1x16, .f32⟩
  | .hbm, ⟨39, _⟩ => ⟨S4096x1x16, .i32⟩
  | .hbm, ⟨40, _⟩ => ⟨S_, .i32⟩
  | .hbm, ⟨41, _⟩ => ⟨S4096x1x16, .i32⟩
  | .hbm, ⟨42, _⟩ => ⟨S4096x1x16, .i1⟩
  | .hbm, ⟨43, _⟩ => ⟨S_, .i32⟩
  | .hbm, ⟨44, _⟩ => ⟨S4096x1x16, .i32⟩
  | .hbm, ⟨45, _⟩ => ⟨S4096x1x16, .i32⟩
  | .hbm, ⟨46, _⟩ => ⟨S4096x1x16, .i32⟩
  | .hbm, ⟨47, _⟩ => ⟨S4096x1x16x1, .i32⟩
  | .hbm, ⟨48, _⟩ => ⟨S1, .i32⟩
  | .hbm, ⟨49, _⟩ => ⟨S_, .i32⟩
  | .hbm, ⟨50, _⟩ => ⟨S4096x1x16x1, .i32⟩
  | .hbm, ⟨51, _⟩ => ⟨S4096x1x16x1, .i1⟩
  | .hbm, ⟨52, _⟩ => ⟨S1x1x1x1, .i32⟩
  | .hbm, ⟨53, _⟩ => ⟨S4096x1x16x1, .i32⟩
  | .hbm, ⟨54, _⟩ => ⟨S4096x1x16x1, .i1⟩
  | .hbm, ⟨55, _⟩ => ⟨S4096x1x16x1, .i1⟩
  | .hbm, ⟨56, _⟩ => ⟨S_, .i1⟩
  | .hbm, ⟨57, _⟩ => ⟨S4096x1x16, .i1⟩
  | .hbm, ⟨58, _⟩ => ⟨S4096x1x16x1024, .f32⟩
  | .hbm, ⟨59, _⟩ => ⟨S4096x1x16x1024, .i1⟩
  | .hbm, ⟨60, _⟩ => ⟨S_, .f32⟩
  | .hbm, ⟨61, _⟩ => ⟨S4096x1x16x1024, .f32⟩
  | .hbm, ⟨62, _⟩ => ⟨S4096x1x16x1024, .f32⟩
  | .hbm, ⟨63, _⟩ => ⟨S_, .i32⟩
  | .hbm, ⟨64, _⟩ => ⟨S4096x1x16, .i32⟩
  | .hbm, ⟨65, _⟩ => ⟨S4096x1x16, .i1⟩
  | .hbm, ⟨66, _⟩ => ⟨S_, .i32⟩
  | .hbm, ⟨67, _⟩ => ⟨S4096x1x16, .i32⟩
  | .hbm, ⟨68, _⟩ => ⟨S4096x1x16, .i32⟩
  | .hbm, ⟨69, _⟩ => ⟨S4096x1x16, .i32⟩
  | .hbm, ⟨70, _⟩ => ⟨S4096x1x16x1, .i32⟩
  | .hbm, ⟨71, _⟩ => ⟨S1, .i32⟩
  | .hbm, ⟨72, _⟩ => ⟨S_, .i32⟩
  | .hbm, ⟨73, _⟩ => ⟨S4096x1x16x1, .i32⟩
  | .hbm, ⟨74, _⟩ => ⟨S4096x1x16x1, .i1⟩
  | .hbm, ⟨75, _⟩ => ⟨S1x1x1x1, .i32⟩
  | .hbm, ⟨76, _⟩ => ⟨S4096x1x16x1, .i32⟩
  | .hbm, ⟨77, _⟩ => ⟨S4096x1x16x1, .i1⟩
  | .hbm, ⟨78, _⟩ => ⟨S4096x1x16x1, .i1⟩
  | .hbm, ⟨79, _⟩ => ⟨S_, .i1⟩
  | .hbm, ⟨80, _⟩ => ⟨S4096x1x16, .i1⟩
  | .hbm, ⟨81, _⟩ => ⟨S4096x1x16x1024, .f32⟩
  | .hbm, ⟨82, _⟩ => ⟨S4096x1x16x1024, .i1⟩
  | .hbm, ⟨83, _⟩ => ⟨S_, .f32⟩
  | .hbm, ⟨84, _⟩ => ⟨S4096x1x16x1024, .f32⟩
  | .hbm, ⟨85, _⟩ => ⟨S4096x1x16x1024, .f32⟩
  | .hbm, ⟨86, _⟩ => ⟨S4096x1x16, .f32⟩
  | .hbm, ⟨87, _⟩ => ⟨S_, .f32⟩
  | .hbm, ⟨88, _⟩ => ⟨S4096x1x16, .f32⟩
  | .hbm, ⟨89, _⟩ => ⟨S4096x1x16, .f32⟩
  | .hbm, ⟨90, _⟩ => ⟨S4096x1x16, .f32⟩
  | .hbm, ⟨91, _⟩ => ⟨S_, .f32⟩
  | .hbm, ⟨92, _⟩ => ⟨S_, .f32⟩
  | .hbm, ⟨93, _⟩ => ⟨S4096x1x16, .f32⟩
  | .hbm, ⟨94, _⟩ => ⟨S4096x1x16, .f32⟩
  | .hbm, ⟨95, _⟩ => ⟨S4096x1x16, .f32⟩
  | .hbm, ⟨96, _⟩ => ⟨S4096x1x16, .f32⟩
  | .hbm, ⟨97, _⟩ => ⟨S_, .f32⟩
  | .hbm, ⟨98, _⟩ => ⟨S4096x1, .f32⟩
  | .hbm, ⟨99, _⟩ => ⟨S_, .f32⟩
  | .hbm, ⟨100, _⟩ => ⟨S4096x1, .f32⟩
  | .hbm, ⟨101, _⟩ => ⟨S4096x1, .f32⟩
  | .hbm, ⟨102, _⟩ => ⟨S4096x1x1, .f32⟩
  | .hbm, ⟨103, _⟩ => ⟨S4096x1x16, .f32⟩
  | .hbm, ⟨104, _⟩ => ⟨S4096x1x16, .f32⟩
  | .hbm, ⟨105, _⟩ => ⟨S4096x1x16, .f32⟩
  | .hbm, ⟨106, _⟩ => ⟨S_, .f32⟩
  | .hbm, ⟨107, _⟩ => ⟨S4096x1, .f32⟩
  | .hbm, ⟨108, _⟩ => ⟨S4096x1x1, .f32⟩
  | .hbm, ⟨109, _⟩ => ⟨S4096x1x16, .f32⟩
  | .hbm, ⟨110, _⟩ => ⟨S4096x1x16, .f32⟩
  | .hbm, ⟨111, _⟩ => ⟨S4096x1x16, .f32⟩
  | .hbm, ⟨112, _⟩ => ⟨S4096x1024, .f32⟩
  | .hbm, ⟨113, _⟩ => ⟨S4096x16, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_v0 : Ref sig .tc := ⟨.hbm, 7, rfl⟩
abbrev main_call0_cst : Ref sig .tc := ⟨.hbm, 8, rfl⟩
abbrev main_call0_v1 : Ref sig .tc := ⟨.hbm, 9, rfl⟩
abbrev main_call0_v2 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_values : Ref sig .tc := ⟨.hbm, 29, rfl⟩
abbrev main_indices : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_values_1 : Ref sig .tc := ⟨.hbm, 38, rfl⟩
abbrev main_indices_2 : Ref sig .tc := ⟨.hbm, 39, rfl⟩
abbrev main_call1_c : Ref sig .tc := ⟨.hbm, 40, rfl⟩
abbrev main_call1_v0 : Ref sig .tc := ⟨.hbm, 41, rfl⟩
abbrev main_call1_v1 : Ref sig .tc := ⟨.hbm, 42, rfl⟩
abbrev main_call1_c_0 : Ref sig .tc := ⟨.hbm, 43, rfl⟩
abbrev main_call1_v2 : Ref sig .tc := ⟨.hbm, 44, rfl⟩
abbrev main_call1_v3 : Ref sig .tc := ⟨.hbm, 45, rfl⟩
abbrev main_call1_v4 : Ref sig .tc := ⟨.hbm, 46, rfl⟩
abbrev main_call1_v5 : Ref sig .tc := ⟨.hbm, 47, rfl⟩
abbrev main_call1_c_1 : Ref sig .tc := ⟨.hbm, 48, rfl⟩
abbrev main_call1_c_2 : Ref sig .tc := ⟨.hbm, 49, rfl⟩
abbrev main_call1_v6 : Ref sig .tc := ⟨.hbm, 50, rfl⟩
abbrev main_call1_v7 : Ref sig .tc := ⟨.hbm, 51, rfl⟩
abbrev main_call1_v8 : Ref sig .tc := ⟨.hbm, 52, rfl⟩
abbrev main_call1_v9 : Ref sig .tc := ⟨.hbm, 53, rfl⟩
abbrev main_call1_v10 : Ref sig .tc := ⟨.hbm, 54, rfl⟩
abbrev main_call1_v11 : Ref sig .tc := ⟨.hbm, 55, rfl⟩
abbrev main_call1_c_3 : Ref sig .tc := ⟨.hbm, 56, rfl⟩
abbrev main_call1_v12 : Ref sig .tc := ⟨.hbm, 57, rfl⟩
abbrev main_call1_v13 : Ref sig .tc := ⟨.hbm, 58, rfl⟩
abbrev main_call1_v14 : Ref sig .tc := ⟨.hbm, 59, rfl⟩
abbrev main_call1_cst : Ref sig .tc := ⟨.hbm, 60, rfl⟩
abbrev main_call1_v15 : Ref sig .tc := ⟨.hbm, 61, rfl⟩
abbrev main_v23 : Ref sig .tc := ⟨.hbm, 62, rfl⟩
abbrev main_call2_c : Ref sig .tc := ⟨.hbm, 63, rfl⟩
abbrev main_call2_v0 : Ref sig .tc := ⟨.hbm, 64, rfl⟩
abbrev main_call2_v1 : Ref sig .tc := ⟨.hbm, 65, rfl⟩
abbrev main_call2_c_0 : Ref sig .tc := ⟨.hbm, 66, rfl⟩
abbrev main_call2_v2 : Ref sig .tc := ⟨.hbm, 67, rfl⟩
abbrev main_call2_v3 : Ref sig .tc := ⟨.hbm, 68, rfl⟩
abbrev main_call2_v4 : Ref sig .tc := ⟨.hbm, 69, rfl⟩
abbrev main_call2_v5 : Ref sig .tc := ⟨.hbm, 70, rfl⟩
abbrev main_call2_c_1 : Ref sig .tc := ⟨.hbm, 71, rfl⟩
abbrev main_call2_c_2 : Ref sig .tc := ⟨.hbm, 72, rfl⟩
abbrev main_call2_v6 : Ref sig .tc := ⟨.hbm, 73, rfl⟩
abbrev main_call2_v7 : Ref sig .tc := ⟨.hbm, 74, rfl⟩
abbrev main_call2_v8 : Ref sig .tc := ⟨.hbm, 75, rfl⟩
abbrev main_call2_v9 : Ref sig .tc := ⟨.hbm, 76, rfl⟩
abbrev main_call2_v10 : Ref sig .tc := ⟨.hbm, 77, rfl⟩
abbrev main_call2_v11 : Ref sig .tc := ⟨.hbm, 78, rfl⟩
abbrev main_call2_c_3 : Ref sig .tc := ⟨.hbm, 79, rfl⟩
abbrev main_call2_v12 : Ref sig .tc := ⟨.hbm, 80, rfl⟩
abbrev main_call2_v13 : Ref sig .tc := ⟨.hbm, 81, rfl⟩
abbrev main_call2_v14 : Ref sig .tc := ⟨.hbm, 82, rfl⟩
abbrev main_call2_cst : Ref sig .tc := ⟨.hbm, 83, rfl⟩
abbrev main_call2_v15 : Ref sig .tc := ⟨.hbm, 84, rfl⟩
abbrev main_v24 : Ref sig .tc := ⟨.hbm, 85, rfl⟩
abbrev main_v25 : Ref sig .tc := ⟨.hbm, 86, rfl⟩
abbrev main_cst_3 : Ref sig .tc := ⟨.hbm, 87, rfl⟩
abbrev main_v26 : Ref sig .tc := ⟨.hbm, 88, rfl⟩
abbrev main_v27 : Ref sig .tc := ⟨.hbm, 89, rfl⟩
abbrev main_v28 : Ref sig .tc := ⟨.hbm, 90, rfl⟩
abbrev main_cst_4 : Ref sig .tc := ⟨.hbm, 91, rfl⟩
abbrev main_v29 : Ref sig .tc := ⟨.hbm, 92, rfl⟩
abbrev main_v30 : Ref sig .tc := ⟨.hbm, 93, rfl⟩
abbrev main_v31 : Ref sig .tc := ⟨.hbm, 94, rfl⟩
abbrev main_v32 : Ref sig .tc := ⟨.hbm, 95, rfl⟩
abbrev main_v33 : Ref sig .tc := ⟨.hbm, 96, rfl⟩
abbrev main_cst_5 : Ref sig .tc := ⟨.hbm, 97, rfl⟩
abbrev main_v34 : Ref sig .tc := ⟨.hbm, 98, rfl⟩
abbrev main_cst_6 : Ref sig .tc := ⟨.hbm, 99, rfl⟩
abbrev main_v35 : Ref sig .tc := ⟨.hbm, 100, rfl⟩
abbrev main_v36 : Ref sig .tc := ⟨.hbm, 101, rfl⟩
abbrev main_v37 : Ref sig .tc := ⟨.hbm, 102, rfl⟩
abbrev main_v38 : Ref sig .tc := ⟨.hbm, 103, rfl⟩
abbrev main_v39 : Ref sig .tc := ⟨.hbm, 104, rfl⟩
abbrev main_v40 : Ref sig .tc := ⟨.hbm, 105, rfl⟩
abbrev main_cst_7 : Ref sig .tc := ⟨.hbm, 106, rfl⟩
abbrev main_v41 : Ref sig .tc := ⟨.hbm, 107, rfl⟩
abbrev main_v42 : Ref sig .tc := ⟨.hbm, 108, rfl⟩
abbrev main_v43 : Ref sig .tc := ⟨.hbm, 109, rfl⟩
abbrev main_v44 : Ref sig .tc := ⟨.hbm, 110, rfl⟩
abbrev main_v45 : Ref sig .tc := ⟨.hbm, 111, rfl⟩
abbrev main_v46 : Ref sig .tc := ⟨.hbm, 112, rfl⟩
abbrev main_v47 : Ref sig .tc := ⟨.hbm, 113, rfl⟩

abbrev nD : Nat := 1
abbrev τ : Topo := Topo.v7x

variable {F : FTy → Type} [FloatOps F]
-- ==== Proof.Consts.lean ====
/- The float constants that the two programs write, as the extended reals that they are. -/
module

public import Idealize.ShloMosaic.PureOps.Ideal

@[expose] public section

noncomputable section

namespace Cert.Peer

open Idealize.ShloMosaic

/-- The pattern of −∞ denotes −∞. -/
theorem ofBits_negInf : Ideal.ofBits .f32 0xFF800000#32 = (⊥ : EReal) := by
  simp [Ideal.ofBits, Ideal.ieee]

/-- The pattern of +∞ denotes +∞. -/
theorem ofBits_posInf : Ideal.ofBits .f32 0x7F800000#32 = (⊤ : EReal) := by
  simp [Ideal.ofBits, Ideal.ieee]

/-- The pattern of 2.0 denotes 2. -/
theorem ofBits_two : Ideal.ofBits .f32 0x40000000#32 = ((2 : ℝ) : EReal) := by
  simp [Ideal.ofBits, Ideal.ieee, -EReal.coe_mul]; norm_num

/-- The pattern of 32.0 denotes a real. -/
theorem ofBits_scale : ∃ r : ℝ, Ideal.ofBits .f32 0x42000000#32 = (r : EReal) := by
  refine ⟨32, ?_⟩
  simp [Ideal.ofBits, Ideal.ieee, -EReal.coe_mul]; norm_num

/-- The least length that a token is divided by is a positive real. -/
theorem ofBits_tiny : ∃ r : ℝ, 0 < r ∧ Ideal.ofBits .f32 0x2B8CBCCC#32 = (r : EReal) := by
  refine ⟨_, ?_, by simp [Ideal.ofBits, Ideal.ieee, -EReal.coe_mul]; rfl⟩
  positivity

end Cert.Peer
-- ==== Proof.TopRounds.lean ====
/- Taking the greatest entries of a finite row of extended reals one at a time: in every round the first position that holds
   the maximum is taken and its entry is overwritten with −∞. This module shows that the position taken in round `r` is the one
   that a stable descending sort puts in place `r`, as long as no entry of the row is −∞ itself. -/
module

public import Idealize.ShloMosaic.Lib.SortPrefix
public import Mathlib.Data.EReal.Basic

@[expose] public section

noncomputable section

namespace Cert.Peer

open Idealize.ShloMosaic

/-- Position `p` holds the maximum of the row `s` and no earlier position does. -/
def IsFirstMax {n : Nat} (s : Fin n → EReal) (p : Fin n) : Prop :=
  (∀ k, s k ≤ s p) ∧ ∀ k, s k = s p → p ≤ k

/-- A row with at least one position has a first maximum. -/
theorem exists_isFirstMax {n : Nat} [NeZero n] (s : Fin n → EReal) : ∃ p, IsFirstMax s p := by
  classical
  obtain ⟨q, -, hq⟩ := Finset.exists_max_image Finset.univ s ⟨0, Finset.mem_univ _⟩
  have hne : (Finset.univ.filter fun k => s k = s q).Nonempty := ⟨q, by simp⟩
  refine ⟨(Finset.univ.filter fun k => s k = s q).min' hne, ?_⟩
  have hp : s ((Finset.univ.filter fun k => s k = s q).min' hne) = s q :=
    (Finset.mem_filter.mp (Finset.min'_mem _ hne)).2
  refine ⟨fun k => (hq k (Finset.mem_univ _)).trans hp.ge, fun k hk => Finset.min'_le _ _ ?_⟩
  exact Finset.mem_filter.mpr ⟨Finset.mem_univ _, hk.trans hp⟩

/-- A row has only one first maximum. -/
theorem IsFirstMax.eq {n : Nat} {s : Fin n → EReal} {p q : Fin n} (hp : IsFirstMax s p) (hq : IsFirstMax s q) : p = q :=
  have e : s p = s q := le_antisymm (hq.1 p) (hp.1 q)
  le_antisymm (hp.2 q e.symm) (hq.2 p e)

/-- The first position that holds the row's maximum. -/
def firstMax {n : Nat} [NeZero n] (s : Fin n → EReal) : Fin n := Classical.choose (exists_isFirstMax s)

/-- The first place of the maximum is one. -/
theorem firstMax_spec {n : Nat} [NeZero n] (s : Fin n → EReal) : IsFirstMax s (firstMax s) :=
  Classical.choose_spec (exists_isFirstMax s)

/-- The row with its first maximum overwritten with −∞. -/
def dropMax {n : Nat} [NeZero n] (s : Fin n → EReal) : Fin n → EReal := fun k => if k = firstMax s then ⊥ else s k

/-- The row as it stands before round `r`. -/
def rowAt {n : Nat} [NeZero n] (f : Fin n → EReal) : Nat → Fin n → EReal
  | 0 => f
  | r + 1 => dropMax (rowAt f r)

/-- The position taken in round `r`. -/
def pick {n : Nat} [NeZero n] (f : Fin n → EReal) (r : Nat) : Fin n := firstMax (rowAt f r)

/-- Before round `r` the positions taken so far hold −∞ and the others their own entries. -/
theorem rowAt_eq {n : Nat} [NeZero n] (f : Fin n → EReal) (r : Nat) (k : Fin n) :
    rowAt f r k = if ∃ j < r, pick f j = k then ⊥ else f k := by
  induction r with
  | zero => simp [rowAt]
  | succ r ih =>
    show dropMax (rowAt f r) k = _
    unfold dropMax
    by_cases h : k = firstMax (rowAt f r)
    · rw [if_pos h, if_pos ⟨r, Nat.lt_succ_self r, h.symm⟩]
    · rw [if_neg h, ih]
      refine if_congr ⟨?_, ?_⟩ rfl rfl
      · rintro ⟨j, hj, e⟩
        exact ⟨j, Nat.lt_succ_of_lt hj, e⟩
      · rintro ⟨j, hj, e⟩
        rcases Nat.lt_succ_iff_lt_or_eq.mp hj with hj | rfl
        · exact ⟨j, hj, e⟩
        · exact absurd e.symm h

/-- With fewer rounds done than there are positions, some position has not been taken. -/
theorem exists_not_taken {n : Nat} [NeZero n] (f : Fin n → EReal) (r : Nat) (hr : r < n) : ∃ k, ∀ j < r, pick f j ≠ k := by
  classical
  by_contra h
  push Not at h
  have hs : Function.Surjective (fun j : Fin r => pick f j) := fun k => by
    obtain ⟨j, hj, e⟩ := h k
    exact ⟨⟨j, hj⟩, e⟩
  have := Fintype.card_le_of_surjective _ hs
  simp only [Fintype.card_fin] at this
  omega

section NoBot

variable {n : Nat} [NeZero n] {f : Fin n → EReal} (hf : ∀ k, f k ≠ ⊥)
include hf

/-- Where no entry is −∞, a round takes a position that no earlier round took. -/
theorem pick_fresh (r : Nat) (hr : r < n) : ∀ j < r, pick f j ≠ pick f r := by
  intro j hj e
  obtain ⟨k, hk⟩ := exists_not_taken f r hr
  have h1 : rowAt f r (pick f r) = ⊥ := by rw [rowAt_eq, if_pos ⟨j, hj, e⟩]
  have h2 : rowAt f r k = f k := by rw [rowAt_eq, if_neg]; rintro ⟨j, hj, e⟩; exact hk j hj e
  have h3 := (firstMax_spec (rowAt f r)).1 k
  rw [h2] at h3
  change f k ≤ rowAt f r (pick f r) at h3
  rw [h1] at h3
  exact hf k (le_bot_iff.mp h3)

/-- The maximum that a round reads is the row's own entry at the position taken. -/
theorem rowAt_pick (r : Nat) (hr : r < n) : rowAt f r (pick f r) = f (pick f r) := by
  rw [rowAt_eq, if_neg]
  rintro ⟨j, hj, e⟩
  exact pick_fresh hf r hr j hj e

/-- Different rounds take different positions. -/
theorem pick_ne {i j : Nat} (hi : i < n) (hj : j < n) (h : i ≠ j) : pick f i ≠ pick f j := by
  rcases Nat.lt_or_gt_of_ne h with h | h
  · exact pick_fresh hf j hj i h
  · exact (pick_fresh hf i hi j h).symm

/-- An entry that no earlier round took does not exceed the one that round `r` takes, and where it equals it, it stands later. -/
theorem pick_dominates (r : Nat) (hr : r < n) (k : Fin n) (hk : ∀ j < r, pick f j ≠ k) :
    f k ≤ f (pick f r) ∧ (f k = f (pick f r) → pick f r ≤ k) := by
  have h2 : rowAt f r k = f k := by rw [rowAt_eq, if_neg]; rintro ⟨j, hj, e⟩; exact hk j hj e
  have h1 := rowAt_pick hf r hr
  have hs := firstMax_spec (rowAt f r)
  change (∀ k, rowAt f r k ≤ rowAt f r (pick f r)) ∧ (∀ k, rowAt f r k = rowAt f r (pick f r) → pick f r ≤ k) at hs
  rw [h1] at hs
  exact ⟨h2 ▸ hs.1 k, fun e => hs.2 k (h2.trans e)⟩

end NoBot

/-- "Greater entry first": how a descending sort of the positions compares two of them. -/
def gtFirst {n : Nat} (f : Fin n → EReal) (k k' : Fin n) : Bool := decide (f k' < f k)

/-- "Greater entry first, and of equal entries the earlier position." -/
def gtThenPos {n : Nat} (f : Fin n → EReal) (k k' : Fin n) : Bool :=
  decide (f k' < f k) || (decide (f k = f k') && decide (k < k'))

/-- The order by value and then by place is strict and total. -/
theorem strictTotalBefore_gtThenPos {n : Nat} (f : Fin n → EReal) : StrictTotalBefore (gtThenPos f) := by
  classical
  refine StrictTotalBefore.of_key_then_position (fun a b : EReal => decide (b < a)) f (fun a => by simp) ?_ ?_
  · intro a b c hab hbc
    simp only [decide_eq_true_eq] at *
    exact hbc.trans hab
  · intro a b
    simp only [decide_eq_true_eq]
    rcases lt_trichotomy a b with h | h | h
    · exact Or.inr (Or.inr h)
    · exact Or.inr (Or.inl h)
    · exact Or.inl h

/-- On positions in increasing order a stable sort that compares the entries alone is the sort that settles ties by position. -/
theorem stableSort_gtFirst {n : Nat} (f : Fin n → EReal) (l : List (Fin n)) (hl : l.Pairwise (· < ·)) :
    stableSort (gtFirst f) l = stableSort (gtThenPos f) l := by
  induction l with
  | nil => rfl
  | cons a l ih =>
    rw [List.pairwise_cons] at hl
    show insertBefore _ a (stableSort _ l) = insertBefore _ a (stableSort _ l)
    rw [ih hl.2]
    refine insertBefore_congr _ _ a _ fun b hb => ?_
    have hab : a < b := hl.1 b ((perm_stableSort _ l).mem_iff.mp hb)
    simp [gtFirst, gtThenPos, not_lt_of_gt hab]

/-- The same, as the position that the sort puts in place `k`. -/
theorem sortedFrom_gtFirst {n : Nat} (f : Fin n → EReal) (k : Fin n) : sortedFrom (gtFirst f) k = sortedFrom (gtThenPos f) k := by
  have h : sortPositions n (gtFirst f) = sortPositions n (gtThenPos f) :=
    stableSort_gtFirst f _ (List.pairwise_lt_finRange n)
  unfold sortedFrom
  rw [List.get_of_eq h]
  rfl

/-- Where no entry is −∞, the position taken in round `r` is the one that a stable descending sort puts in place `r`. -/
theorem sortedFrom_eq_pick {n : Nat} [NeZero n] {f : Fin n → EReal} (hf : ∀ k, f k ≠ ⊥) (r : Fin n) :
    sortedFrom (gtFirst f) r = pick f r := by
  rw [sortedFrom_gtFirst]
  have hB := strictTotalBefore_gtThenPos f
  have key : ∀ (i : Fin n) (p : Fin n), (∀ j < i.val, pick f j ≠ p) → gtThenPos f p (pick f i) = false := by
    intro i p hp
    obtain ⟨h1, h2⟩ := pick_dominates hf i i.isLt p hp
    simp only [gtThenPos, Bool.or_eq_false_iff, decide_eq_false_iff_not, not_lt, Bool.and_eq_false_iff]
    refine ⟨h1, ?_⟩
    by_cases e : f p = f (pick f i)
    · exact Or.inr (h2 e)
    · exact Or.inl e
  have := hB.sortedFrom_eq_of_prefix (k := n) le_rfl (fun i => pick f i.val)
    (fun i j h => by
      by_contra hne
      exact pick_ne hf i.isLt j.isLt (fun e => hne (Fin.ext e)) h)
    (fun i j hij => key i _ fun k hk => pick_ne hf (hk.trans i.isLt) j.isLt (by have : i.val < j.val := hij; omega))
    (fun i p hp => key i p fun j hj => hp ⟨j, hj.trans i.isLt⟩) r
  simpa using this

end Cert.Peer

end
-- ==== Proof.Spec.lean ====
/- The value of one token, row by row, in plain mathematics over the extended reals: from a row `f` of 256 key similarities the
   16 best keys, from those the 256 pair scores, from those the 16 best pairs with their softmax weights; from a row of 256
   hidden units the 16 chosen ones, their gated activations, and the weighted sum of the chosen output rows. -/
module

public import proofs.«01_k».proof.Proof.TopRounds
public import Idealize.ShloMosaic.Lib.Pointwise
public import Idealize.ShloMosaic.Lib.WordArith

@[expose] public section

noncomputable section

namespace Cert.Peer

open Idealize.ShloMosaic

/-- The score of pair `c`: the `c / 16`-th best similarity plus the index of the `c % 16`-th best key. -/
def pairScore (f : Fin 256 → EReal) : Fin 256 → EReal := fun c =>
  f (pick f (c.val / 16)) + (((pick f (c.val % 16)).val : ℝ) : EReal)

/-- The `j`-th best pair, used as an expert number. -/
def expert (f : Fin 256 → EReal) (j : Nat) : Fin 256 := pick (pairScore f) j

/-- The score of the `j`-th best pair. -/
def score (f : Fin 256 → EReal) (j : Fin 16) : EReal := pairScore f (expert f j)

/-- The softmax of 16 scores, the greatest score subtracted first. -/
def softmax (s : Fin 16 → EReal) (j : Fin 16) : EReal :=
  Ideal.div (Ideal.exp (s j - Finset.univ.fold max ⊥ s)) (∑ k : Fin 16, Ideal.exp (s k - Finset.univ.fold max ⊥ s))

/-- The exact gelu. -/
def gelu (h : EReal) : EReal :=
  Ideal.ofBits .f32 0x3F000000#32 * h * (1 + Ideal.erf (h * (((Real.sqrt 2)⁻¹ : ℝ) : EReal)))

/-- The hidden value of the `j`-th chosen expert. -/
def hidden (f : Fin 256 → EReal) (H : Fin 256 → EReal) (j : Fin 16) : EReal := H (expert f j)

/-- The coefficient of the `j`-th chosen expert. -/
def coef (f : Fin 256 → EReal) (H : Fin 256 → EReal) (j : Fin 16) : EReal :=
  gelu (hidden f H j) * softmax (score f) j

/-- One entry of the output row: the chosen experts' coefficients times their entries `u`. -/
def mix (f : Fin 256 → EReal) (H : Fin 256 → EReal) (u : Fin 256 → EReal) : EReal :=
  ∑ j : Fin 16, coef f H j * u (expert f j)

/-- A row without −∞ has pair scores without −∞. -/
theorem pairScore_ne_bot {f : Fin 256 → EReal} (hf : ∀ k, f k ≠ ⊥) (c : Fin 256) : pairScore f c ≠ ⊥ := by
  unfold pairScore
  intro h
  rcases EReal.add_eq_bot_iff.mp h with h | h
  · exact hf _ h
  · exact EReal.coe_ne_bot _ h

/-- Different ranks choose different experts. -/
theorem expert_inj {f : Fin 256 → EReal} (hf : ∀ k, f k ≠ ⊥) {i j : Nat} (hi : i < 256) (hj : j < 256) :
    expert f i = expert f j ↔ i = j := by
  refine ⟨fun e => ?_, fun e => by rw [e]⟩
  by_contra h
  exact pick_ne (pairScore_ne_bot hf) hi hj h e

/-- A small position converted to a float is that number. -/
theorem sitofp_pos (k : Fin 256) :
    FloatOps.sitofp (F := Ideal) .f32 (BitVec.ofNat 32 k.val) = (((k.val : ℕ) : ℝ) : EReal) := by
  have hk := k.isLt
  have e : (BitVec.ofNat 32 k.val).toInt = (k.val : Int) := WordArith.toInt_ofNat_small _ (by omega)
  change (((BitVec.ofNat 32 k.val).toInt : ℝ) : EReal) = _
  rw [e]
  norm_cast

end Cert.Peer
-- ==== Proof.TokenSpec.lean ====
/- The values of the whole arrays in plain mathematics: the normalised tokens, their similarities to the first half's keys, the
   hidden values, and from them the two results, each at an index. -/
module

public import proofs.«01_k».proof.Proof.Spec
public import Idealize.ShloMosaic.Lib.Pointwise

@[expose] public section

noncomputable section

namespace Cert.Peer

open Idealize.ShloMosaic

/-- Entry `d` of token `i`, divided by the token's length (never below the small constant), times 32 and its gain. -/
def normed (X : Fin 4096 → Fin 1024 → EReal) (G : Fin 1024 → EReal) (i : Fin 4096) (d : Fin 1024) : EReal :=
  Ideal.div (X i d) (max (Ideal.sqrt (∑ k : Fin 1024, X i k * X i k)) (Ideal.ofBits .f32 0x2B8CBCCC#32))
    * Ideal.ofBits .f32 0x42000000#32 * G d

/-- The similarity of token `i` to key `c`: its query (the first 512 columns of the projection) against the key. -/
def similarity (T : Fin 4096 → Fin 1024 → EReal) (W : Fin 1024 → Fin 512 → EReal) (K : Fin 256 → Fin 512 → EReal)
    (i : Fin 4096) (c : Fin 256) : EReal :=
  ∑ d : Fin 512, (∑ k : Fin 1024, T i k * W k d) * K c d

/-- The hidden value of token `i` at expert `c`. -/
def hiddenAll (T : Fin 4096 → Fin 1024 → EReal) (D : Fin 256 → Fin 1024 → EReal) (i : Fin 4096) (c : Fin 256) : EReal :=
  ∑ d : Fin 1024, T i d * D c d

end Cert.Peer
-- ==== Proof.Finite.lean ====
/- The precondition read back: the four arguments that the scores depend on are real, so every similarity is real and none of them
   is −∞. -/
module

public import proofs.«01_k».proof.Defs
public import proofs.«01_k».proof.Proof.Consts
public import proofs.«01_k».proof.Proof.TokenSpec
public import Idealize.ShloMosaic.Lib.ReduceAll
public import Idealize.ShloMosaic.Lib.WordArith
public import Idealize.ShloMosaic.PureOps.Ideal.Laws

@[expose] public section

noncomputable section

namespace Cert.Peer

open Idealize.ShloMosaic Idealize.SL.Sem

/-- The side conditions of the precondition's operations. -/
theorem preFacts : Cert.Pre_finite.Facts where
  bcast_S_S4096x1024 := by decide
  reducesTo_S4096x1024_S_d0_1 := by decide
  h_S_ := by decide
  bcast_S_S1024 := by decide
  reducesTo_S1024_S_d0 := by decide
  bcast_S_S1024x1024 := by decide
  reducesTo_S1024x1024_S_d0_1 := by decide
  bcast_S_S1x256x2x512 := by decide
  reducesTo_S1x256x2x512_S_d0_1_2_3 := by decide

/-- An extended real is a real number. -/
def IsReal (x : EReal) : Prop := ∃ r : ℝ, x = (r : EReal)

/-- A real is not −∞. -/
theorem IsReal.ne_bot {x : EReal} (h : IsReal x) : x ≠ ⊥ := by
  obtain ⟨r, rfl⟩ := h
  exact EReal.coe_ne_bot r

/-- A product of reals is real. -/
theorem IsReal.mul {x y : EReal} (hx : IsReal x) (hy : IsReal y) : IsReal (x * y) := by
  obtain ⟨r, rfl⟩ := hx
  obtain ⟨s, rfl⟩ := hy
  exact ⟨r * s, (EReal.coe_mul r s).symm⟩

/-- A finite sum of reals is real. -/
theorem IsReal.sum {n : ℕ} {f : Fin n → EReal} (h : ∀ k, IsReal (f k)) : IsReal (∑ k, f k) := by
  choose r hr using h
  refine ⟨∑ k, r k, ?_⟩
  rw [funext hr]
  exact (map_sum (⟨⟨Real.toEReal, EReal.coe_zero⟩, EReal.coe_add⟩ : ℝ →+ EReal) r Finset.univ).symm

/-- A real token divided by its length, the length bounded below by a positive real, and scaled is real. -/
theorem isReal_normed {X : Fin 4096 → Fin 1024 → EReal} {G : Fin 1024 → EReal} (hX : ∀ i d, IsReal (X i d))
    (hG : ∀ d, IsReal (G d)) (i : Fin 4096) (d : Fin 1024) : IsReal (normed X G i d) := by
  refine IsReal.mul (IsReal.mul ?_ ofBits_scale) (hG d)
  obtain ⟨t, ht, et⟩ := ofBits_tiny
  obtain ⟨x, ex⟩ := hX i d
  choose r hr using hX i
  have hs : (∑ k : Fin 1024, X i k * X i k) = ((∑ k, r k * r k : ℝ) : EReal) := by
    simp only [hr, ← EReal.coe_mul]
    exact (map_sum (⟨⟨Real.toEReal, EReal.coe_zero⟩, EReal.coe_add⟩ : ℝ →+ EReal) _ Finset.univ).symm
  have h0 : ¬ (∑ k, r k * r k : ℝ) < 0 := not_lt.mpr (Finset.sum_nonneg fun k _ => mul_self_nonneg _)
  rw [hs, Ideal.sqrt_coe, if_neg h0, et, ex, ← EReal.coe_strictMono.monotone.map_max, Ideal.div_coe (lt_max_of_lt_right ht).ne']
  exact IsReal.mul ⟨_, rfl⟩ ⟨_, rfl⟩

/-- The similarities of real tokens, projections and keys are real. -/
theorem isReal_similarity {T : Fin 4096 → Fin 1024 → EReal} {W : Fin 1024 → Fin 512 → EReal} {K : Fin 256 → Fin 512 → EReal}
    (hT : ∀ i d, IsReal (T i d)) (hW : ∀ k d, IsReal (W k d)) (hK : ∀ e d, IsReal (K e d)) (i : Fin 4096) (c : Fin 256) :
    IsReal (similarity T W K i c) :=
  IsReal.sum fun d => IsReal.mul (IsReal.sum fun k => IsReal.mul (hT i k) (hW k d)) (hK c d)

/-- A value whose absolute value is below +∞ is real. -/
theorem isReal_of_abs_lt {x : EReal} (h : max x (-x) < ⊤) : IsReal x := by
  induction x using EReal.rec with
  | bot => simp at h
  | coe r => exact ⟨r, rfl⟩
  | top => simp at h

/-- An array all of whose absolute values compare below +∞ is real at every index. -/
theorem isReal_of_all {s t u : Shape} {axes : List (Fin s.rank)} [Subsingleton t.Idx] (x : FVec Ideal s .f32)
    (hb : Cert.Pre_finite.S_.BroadcastsInDim s (![] : Fin 0 → Fin s.rank)) (init : u.Idx → BitVec 1) (h : s.ReducesTo axes t)
    (hu : 0 < u.numel) (j : t.Idx)
    (e : Host.reduce IntOp.andi (cmpf .olt (Host.absf x)
      (broadcastInDim s ![] hb (constant Cert.Pre_finite.S_ .f32 0x7F800000#32))) init h hu j = 1#1) (i : s.Idx) :
    IsReal (x i) := by
  have h1 := Host.reduce_andi_all _ init h hu j e i
  have h2 : BitVec.ofBool (decide (max (x i) (-(x i)) < Ideal.ofBits .f32 0x7F800000#32)) = 1#1 := h1
  rw [ofBits_posInf] at h2
  exact isReal_of_abs_lt (of_decide_eq_true ((WordArith.ofBool_eq_one_iff _).1 h2))

/-- Under the precondition the tokens, the gains, the projection and the keys are real. -/
theorem isReal_of_pre [Cert.Pre_finite.Facts] (x0 : FVec Ideal Cert.Pre_finite.S4096x1024 .f32) (x1 : FVec Ideal Cert.Pre_finite.S4096x1x16 .f32)
    (x2 : FVec Ideal Cert.Pre_finite.S1024 .f32) (x3 : FVec Ideal Cert.Pre_finite.S1024x1024 .f32)
    (x4 : FVec Ideal Cert.Pre_finite.S1x256x2x512 .f32) (x5 x6 : FVec Ideal Cert.Pre_finite.S65536x1024 .f32)
    (h : Cert.Pre_finite.fn x0 x1 x2 x3 x4 x5 x6 = fun _ => 1#1) :
    (∀ i, IsReal (x0 i)) ∧ (∀ i, IsReal (x2 i)) ∧ (∀ i, IsReal (x3 i)) ∧ ∀ i, IsReal (x4 i) := by
  have j : Cert.Pre_finite.S_.Idx := fun k => k.elim0
  haveI : Subsingleton Cert.Pre_finite.S_.Idx := ⟨fun a b => funext fun k => k.elim0⟩
  have h1 := congrFun h j
  dsimp only [Cert.Pre_finite.fn, Cert.Pre_finite.fn_part1] at h1
  obtain ⟨h2, h4⟩ := IntOp.andi_eq_one.1 h1
  obtain ⟨h5, h3⟩ := IntOp.andi_eq_one.1 h2
  obtain ⟨h0, h2⟩ := IntOp.andi_eq_one.1 h5
  exact ⟨isReal_of_all x0 _ _ _ _ j h0, isReal_of_all x2 _ _ _ _ j h2, isReal_of_all x3 _ _ _ _ j h3,
    isReal_of_all x4 _ _ _ _ j h4⟩

end Cert.Peer
-- ==== Proof.KernelRound.lean ====
/- One round of the kernel's top-16 search on a block of 512 rows of 256 scores, as the program prints it: the maximum of each
   row, the first column that holds it, and the block with that column overwritten by −∞. Each is read on one row in the
   vocabulary of TopRounds. -/
module

public import proofs.«01_k».proof.Proof.Gen.KernelIdeal.Skeleton
public import proofs.«01_k».proof.Proof.TopRounds
public import proofs.«01_k».proof.Proof.Consts
public import Idealize.ShloMosaic.Lib.Pointwise
public import Idealize.ShloMosaic.Lib.WordArith

@[expose] public section

set_option maxRecDepth 16384

noncomputable section

namespace Cert.Peer

open Idealize.ShloMosaic Idealize.SL.Sem Cert.KernelIdeal

/-- A block of scores at the reals. -/
local notation "Block" => FVec Ideal S512x256 FTy.f32

/-- The column numbers of a block. -/
def colNo : IVec S512x256 32 := iota .tc S512x256 32 [1] Gen.iota_S512x256_d1_w32

/-- The maximum of every row, as a column. -/
def blockMax (s : Block) : FVec Ideal S512x1 .f32 :=
  shapeCast S512x1 (multiReduction .maximumf [1] S512 s 0xFF800000#32 Gen.reduces_S512x256_S512 (.inl rfl) rfl)
    Gen.shapeCasts_S512_S512x1

/-- For every row the least column that holds the maximum, before it is reshaped to a column. -/
def blockArgFlat (s : Block) : IVec S512 32 :=
  multiReductionI .minsi [1] S512
    (select (cmpf .oeq s (broadcastTo S512x256 (blockMax s) Gen.broadcasts_S512x1_S512x256)) colNo (broadcast S512x256 256#32))
    2147483647#32 Gen.reduces_S512x256_S512 rfl

/-- For every row the least column that holds the maximum. -/
def blockArg (s : Block) : IVec S512x1 32 := shapeCast S512x1 (blockArgFlat s) Gen.shapeCasts_S512_S512x1

/-- Which entries of the block are the ones taken in this round. -/
def blockHit (s : Block) : IVec S512x256 1 :=
  cmpi .eq colNo (broadcastTo S512x256 (blockArg s) Gen.broadcasts_S512x1_S512x256)

/-- The block after the round. -/
def blockNext (s : Block) : Block := select (blockHit s) (broadcast S512x256 (Scalar.ofBits .f32 0xFF800000#32)) s

/-- Row `r` of a block. -/
def rowOf (s : Block) (r : Fin 512) : Fin 256 → EReal := fun l => s (ix2 r l)

/-- The maximum of a row, folded from −∞, is the entry at the row's first maximum. -/
theorem fold_max_row {n : Nat} [NeZero n] (f : Fin n → EReal) : Finset.univ.fold max (⊥ : EReal) f = f (firstMax f) := by
  refine le_antisymm ?_ ?_
  · exact (Finset.fold_max_le _).mpr ⟨bot_le, fun k _ => (firstMax_spec f).1 k⟩
  · exact (Finset.le_fold_max _).mpr (Or.inr ⟨_, Finset.mem_univ _, le_rfl⟩)

/-- A signed minimum of words below 2³¹ is the minimum of the numbers they hold. -/
theorem toNat_fold_minsi {α : Type} [DecidableEq α] (S : Finset α) (c : BitVec 32) (hc : c.toNat < 2 ^ 31) (a : α → BitVec 32)
    (ha : ∀ x, (a x).toNat < 2 ^ 31) :
    (S.fold IntOp.minsi c a).toNat = S.fold min c.toNat (fun x => (a x).toNat) ∧ (S.fold IntOp.minsi c a).toNat < 2 ^ 31 := by
  induction S using Finset.induction_on with
  | empty => simpa using hc
  | insert x S hx ih =>
    have h := WordArith.toNat_minsi_of_lt (a x) (S.fold IntOp.minsi c a) (ha x) ih.2
    rw [Finset.fold_insert hx, Finset.fold_insert hx, h, ih.1]
    exact ⟨rfl, lt_of_le_of_lt (min_le_left _ _) (ha x)⟩

/-- The least column number among the columns that hold the row's maximum is the row's first maximum. -/
theorem fold_minsi_row (f : Fin 256 → EReal) :
    Finset.univ.fold IntOp.minsi (2147483647#32) (fun x => if f x = f (firstMax f) then BitVec.ofNat 32 ↑x else 256#32)
      = BitVec.ofNat 32 (firstMax f).val := by
  have hs := firstMax_spec f
  have hlt : ∀ x : Fin 256, (if f x = f (firstMax f) then BitVec.ofNat 32 ↑x else 256#32).toNat < 2 ^ 31 := by
    intro x; have := x.isLt; split <;> simp <;> omega
  have h := (toNat_fold_minsi Finset.univ (2147483647#32) (by decide) _ hlt).1
  apply BitVec.eq_of_toNat_eq
  rw [h]
  have hp := (firstMax f).isLt
  have e : (BitVec.ofNat 32 (firstMax f).val).toNat = (firstMax f).val := by simp; omega
  rw [e]
  refine le_antisymm ?_ ?_
  · refine (Finset.fold_min_le _).mpr (Or.inr ⟨firstMax f, Finset.mem_univ _, ?_⟩)
    rw [if_pos rfl, e]
  · refine (Finset.le_fold_min _).mpr ⟨by simp; omega, fun k _ => ?_⟩
    have hk := k.isLt
    split
    · rename_i hfk
      have := hs.2 k hfk
      simp; omega
    · simp

/-- The column of maxima holds each row's maximum. -/
theorem blockMax_apply (s : Block) (r : Fin 512) (z : Fin 1) :
    blockMax s (ix2 r z) = rowOf s r (firstMax (rowOf s r)) := by
  pointwise [blockMax]
  rw [ofBits_negInf]
  exact fold_max_row (rowOf s r)

/-- The column of positions holds each row's first maximum. -/
theorem blockArg_apply (s : Block) (r : Fin 512) (z : Fin 1) :
    blockArg s (ix2 r z) = BitVec.ofNat 32 (firstMax (rowOf s r)).val := by
  pointwise [blockArg, blockArgFlat, colNo, blockMax_apply]
  exact fold_minsi_row (rowOf s r)

/-- Two column numbers compare equal as words exactly when they are the same column. -/
theorem cmpi_eq_cols (l k : Fin 256) :
    IntOp.cmpi .eq (BitVec.ofNat 32 l.val) (BitVec.ofNat 32 k.val) = if l = k then 1#1 else 0#1 := by
  have hl : BitVec.ofNat 32 l.val = BitVec.ofNat 32 k.val ↔ l = k := by
    refine ⟨fun h => ?_, fun h => by rw [h]⟩
    have := congrArg BitVec.toNat h
    have h1 := l.isLt; have h2 := k.isLt
    simp only [BitVec.toNat_ofNat] at this
    exact Fin.ext (by omega)
  by_cases h : l = k
  · subst h; simp [IntOp.cmpi]
  · rw [if_neg h, IntOp.cmpi, beq_eq_false_iff_ne.mpr (hl.not.mpr h)]; rfl

/-- A round drops every row's first maximum. -/
theorem blockNext_row (s : Block) (r : Fin 512) : rowOf (blockNext s) r = dropMax (rowOf s r) := by
  funext l
  unfold rowOf
  pointwise [blockNext, blockHit, colNo, blockArg_apply]
  rw [cmpi_eq_cols, ofBits_negInf]
  unfold dropMax
  change _ = if l = firstMax (rowOf s r) then _ else _
  split <;> simp [Scalar.select]

/-- The block before round `n`. -/
def blockAt (s : Block) : Nat → Block
  | 0 => s
  | n + 1 => blockNext (blockAt s n)

/-- Every row of the block before round `n` is the row of TopRounds before round `n`. -/
theorem blockAt_row (s : Block) (n : Nat) (r : Fin 512) : rowOf (blockAt s n) r = rowAt (rowOf s r) n := by
  induction n with
  | zero => rfl
  | succ n ih => rw [blockAt, blockNext_row, ih]; rfl

/-- The positions of round `n` are the picks of TopRounds. -/
theorem blockArg_blockAt (s : Block) (n : Nat) (r : Fin 512) (z : Fin 1) :
    blockArg (blockAt s n) (ix2 r z) = BitVec.ofNat 32 (pick (rowOf s r) n).val := by
  rw [blockArg_apply, blockAt_row]; rfl

/-- The maxima of round `n` are the entries at the picks, while the row holds no −∞ of its own. -/
theorem blockMax_blockAt (s : Block) (r : Fin 512) (hf : ∀ k, rowOf s r k ≠ ⊥) (n : Nat) (hn : n < 256) (z : Fin 1) :
    blockMax (blockAt s n) (ix2 r z) = rowOf s r (pick (rowOf s r) n) := by
  rw [blockMax_apply, blockAt_row]
  exact rowAt_pick hf n hn

end Cert.Peer
-- ==== Proof.Ladder.lean ====
/- A ladder of selects on one word: the value chosen by the last test that succeeds, 0 where none does. The kernel spells its
   small table look-ups and its scatter into a row this way. -/
module

public import Idealize.ShloMosaic.Lib.Pointwise

@[expose] public section

noncomputable section

namespace Cert.Peer

open Idealize.ShloMosaic

/-- `n` selects stacked on 0: step `j` tests the word against `p j` and chooses `v j`. -/
def ladder (w : BitVec 32) (p : Nat → BitVec 32) (v : Nat → EReal) : Nat → EReal
  | 0 => 0
  | n + 1 => Scalar.select (IntOp.cmpi .eq w (p n)) (v n) (ladder w p v n)

/-- One step of a ladder, as a case distinction. -/
theorem ladder_succ (w : BitVec 32) (p : Nat → BitVec 32) (v : Nat → EReal) (n : Nat) :
    ladder w p v (n + 1) = if w = p n then v n else ladder w p v n := by
  rw [ladder, IntOp.cmpi]
  by_cases h : w = p n
  · subst h; simp [Scalar.select]
  · rw [if_neg h, beq_eq_false_iff_ne.mpr h]; rfl

/-- A word that no step tests for leaves 0. -/
theorem ladder_miss (w : BitVec 32) (p : Nat → BitVec 32) (v : Nat → EReal) (n : Nat) (h : ∀ j < n, w ≠ p j) :
    ladder w p v n = 0 := by
  induction n with
  | zero => rfl
  | succ n ih => rw [ladder_succ, if_neg (h n (Nat.lt_succ_self n)), ih fun j hj => h j (Nat.lt_succ_of_lt hj)]

/-- A word that exactly one step tests for chooses that step's value. -/
theorem ladder_hit (w : BitVec 32) (p : Nat → BitVec 32) (v : Nat → EReal) (n k : Nat) (hk : k < n)
    (h : ∀ j < n, w = p j ↔ j = k) : ladder w p v n = v k := by
  induction n with
  | zero => exact absurd hk (Nat.not_lt_zero k)
  | succ n ih =>
    rw [ladder_succ]
    by_cases hn : n = k
    · rw [if_pos ((h n (Nat.lt_succ_self n)).mpr hn), hn]
    · rw [if_neg fun e => hn ((h n (Nat.lt_succ_self n)).mp e)]
      exact ih (by omega) fun j hj => h j (Nat.lt_succ_of_lt hj)

/-- A ladder that tests for 0, 1, …, 15 in turn looks its word up in a table of 16. -/
theorem ladder_table (v : Fin 16 → EReal) (k : Fin 16) :
    ladder (BitVec.ofNat 32 k.val) (fun n => BitVec.ofNat 32 n) (fun n => v (Fin.ofNat 16 n)) 16 = v k := by
  rw [ladder_hit _ _ _ 16 k.val k.isLt]
  · exact congrArg v (Fin.ext (Nat.mod_eq_of_lt k.isLt))
  · intro j hj
    have := k.isLt
    refine ⟨fun e => ?_, fun e => by rw [e]⟩
    have e' := congrArg BitVec.toNat e
    simp only [BitVec.toNat_ofNat] at e'
    omega

/-- Scattering 16 values to 16 different columns of a row of zeros and then weighing the row by `u` is the sum of the 16
    values, each weighed at its own column. -/
theorem sum_scatter (e : Fin 16 → Fin 256) (he : Function.Injective e) (v : Fin 16 → EReal) (u : Fin 256 → EReal) :
    (∑ c : Fin 256, ladder (BitVec.ofNat 32 c.val) (fun n => BitVec.ofNat 32 (e (Fin.ofNat 16 n)).val)
        (fun n => v (Fin.ofNat 16 n)) 16 * u c) = ∑ j : Fin 16, v j * u (e j) := by
  have hword : ∀ a b : Fin 256, BitVec.ofNat 32 a.val = BitVec.ofNat 32 b.val ↔ a = b := by
    intro a b
    refine ⟨fun h => ?_, fun h => by rw [h]⟩
    have h' := congrArg BitVec.toNat h
    have h1 := a.isLt; have h2 := b.isLt
    simp only [BitVec.toNat_ofNat] at h'
    exact Fin.ext (by omega)
  have hfin : ∀ j : Fin 16, Fin.ofNat 16 j.val = j := fun j => Fin.ext (Nat.mod_eq_of_lt j.isLt)
  rw [← Finset.sum_subset (Finset.subset_univ (Finset.univ.map ⟨e, he⟩)), Finset.sum_map]
  · refine Finset.sum_congr rfl fun j _ => ?_
    simp only [Function.Embedding.coeFn_mk]
    rw [ladder_hit _ _ _ 16 j.val j.isLt, hfin]
    intro i hi
    rw [hword]
    refine ⟨fun h => ?_, fun h => by rw [h, hfin]⟩
    have := congrArg Fin.val (he h)
    simp only [Fin.val_ofNat] at this
    omega
  · intro c _ hc
    rw [ladder_miss, zero_mul]
    intro i _ h
    exact hc (Finset.mem_map.mpr ⟨Fin.ofNat 16 i, Finset.mem_univ _, ((hword _ _).mp h).symm⟩)

end Cert.Peer
-- ==== Proof.KernelSearch.lean ====
/- The two searches of one block of the kernel, read off its payloads: the top 16 of every row of the similarity block, the 256
   pair scores built from them, and the top 16 of those. -/
module

public import proofs.«01_k».proof.Proof.Gen.KernelIdeal.Frame
public import proofs.«01_k».proof.Proof.KernelRound
public import proofs.«01_k».proof.Proof.Ladder
public import proofs.«01_k».proof.Proof.Spec

@[expose] public section

set_option maxRecDepth 16384
set_option maxHeartbeats 4000000

noncomputable section

namespace Cert.Peer

open Idealize.ShloMosaic Idealize.SL.Sem Cert.KernelIdeal Cert.KernelIdeal.Gen

/-- Sixteen columns side by side, read at column `j`, are column `j`. -/
theorem concat16_ofFn {α : Type} (g : Fin 16 → S512x1.Idx → α)
    (h : Shape.Concatenates ((List.ofFn fun n : Fin 16 => (⟨S512x1, g n⟩ : (s : Shape) × (s.Idx → α))).map (·.1)) S512x16 1)
    (r : Fin 512) (j : Fin 16) :
    concatenate S512x16 1 (List.ofFn fun n : Fin 16 => (⟨S512x1, g n⟩ : (s : Shape) × (s.Idx → α))) h (ix2 r j)
      = g j (ix2 r 0) := by
  pointwise []

/-- The same for the list written out as the program prints it. -/
theorem concat16_apply {α : Type} (g : Nat → S512x1.Idx → α) (r : Fin 512) (j : Fin 16) :
    concatenate S512x16 1 [⟨S512x1, g 0⟩, ⟨S512x1, g 1⟩, ⟨S512x1, g 2⟩, ⟨S512x1, g 3⟩, ⟨S512x1, g 4⟩, ⟨S512x1, g 5⟩,
      ⟨S512x1, g 6⟩, ⟨S512x1, g 7⟩, ⟨S512x1, g 8⟩, ⟨S512x1, g 9⟩, ⟨S512x1, g 10⟩, ⟨S512x1, g 11⟩, ⟨S512x1, g 12⟩,
      ⟨S512x1, g 13⟩, ⟨S512x1, g 14⟩, ⟨S512x1, g 15⟩]
      concatenates_S512x1_S512x1_S512x1_S512x1_S512x1_S512x1_S512x1_S512x1_S512x1_S512x1_S512x1_S512x1_S512x1_S512x1_S512x1_S512x1_S512x16_d1
      (ix2 r j) = g j.val (ix2 r 0) :=
  concat16_ofFn (fun n => g n.val)
    concatenates_S512x1_S512x1_S512x1_S512x1_S512x1_S512x1_S512x1_S512x1_S512x1_S512x1_S512x1_S512x1_S512x1_S512x1_S512x1_S512x1_S512x16_d1
    r j

/-- The similarity block. -/
def simBlock (x1 : Vec Ideal S512x512 .f32) (x2 : Vec Ideal S256x512 .f32) : FVec Ideal S512x256 .f32 :=
  k0_pay2 (View.ld x1 r0_0) (View.ld x2 r0_1)

/-- An entry of the similarity block is the inner product of a query and a key. -/
theorem simBlock_apply (x1 : Vec Ideal S512x512 .f32) (x2 : Vec Ideal S256x512 .f32) (r : Fin 512) (c : Fin 256) :
    simBlock x1 x2 (ix2 r c) = ∑ d : Fin 512, x1 (ix2 r d) * x2 (ix2 c d) := by
  pointwise [simBlock, k0_pay2]

section Block

variable (x0 : Vec Ideal S512x1024 .f32) (x1 : Vec Ideal S512x512 .f32) (x2 : Vec Ideal S256x512 .f32)
  (x3 x4 : Vec Ideal S256x1024 .f32)

/-- Round `j` of the first search: its maxima fill column `j` of the values. -/
theorem firstVals_apply (r : Fin 512) (j : Fin 16) :
    k0_pay152 x0 x1 x2 x3 x4 (ix2 r j) = blockMax (blockAt (simBlock x1 x2) j.val) (ix2 r 0) :=
  concat16_apply (fun n => blockMax (blockAt (simBlock x1 x2) n)) r j

/-- Round `j` of the first search: its positions, as numbers, fill column `j` of the indices. -/
theorem firstIdx_apply (r : Fin 512) (j : Fin 16) :
    k0_pay153 x0 x1 x2 x3 x4 (ix2 r j) = FloatOps.sitofp .f32 (blockArg (blockAt (simBlock x1 x2) j.val) (ix2 r 0)) :=
  congrArg (FloatOps.sitofp (F := Ideal) FTy.f32) (concat16_apply (fun n => blockArg (blockAt (simBlock x1 x2) n)) r j)

/-- The block of pair scores. -/
def pairBlock : FVec Ideal S512x256 .f32 := k0_pay160 x0 x1 x2 x3 x4

/-- Round `j` of the second search: its positions fill column `j` of the expert numbers. -/
theorem expertIdx_apply (r : Fin 512) (j : Fin 16) :
    k0_pay183 x0 x1 x2 x3 x4 (ix2 r j) = blockArg (blockAt (pairBlock x0 x1 x2 x3 x4) j.val) (ix2 r 0) :=
  concat16_apply (fun n => blockArg (blockAt (pairBlock x0 x1 x2 x3 x4) n)) r j

/-- The maxima of the second search, side by side. -/
def scoreBlock : FVec Ideal S512x16 .f32 :=
  concatenate S512x16 1 (List.ofFn fun n : Fin 16 =>
      (⟨S512x1, blockMax (blockAt (pairBlock x0 x1 x2 x3 x4) n.val)⟩ : (s : Shape) × (s.Idx → Ideal .f32)))
    concatenates_S512x1_S512x1_S512x1_S512x1_S512x1_S512x1_S512x1_S512x1_S512x1_S512x1_S512x1_S512x1_S512x1_S512x1_S512x1_S512x1_S512x16_d1

/-- Round `j` of the second search: its maxima fill column `j` of the scores. -/
theorem scoreBlock_apply (r : Fin 512) (j : Fin 16) :
    scoreBlock x0 x1 x2 x3 x4 (ix2 r j) = blockMax (blockAt (pairBlock x0 x1 x2 x3 x4) j.val) (ix2 r 0) :=
  concat16_ofFn _ _ r j

/-- The softmax of a block of 16 scores in each row, as the program prints it. -/
def blockSoftmax (s : FVec Ideal S512x16 .f32) : FVec Ideal S512x16 .f32 :=
  let e := exp (subf s (broadcastTo S512x16 (shapeCast S512x1
    (multiReduction .maximumf [1] S512 s 0xFF800000#32 reduces_S512x16_S512 (.inl rfl) rfl) shapeCasts_S512_S512x1)
    broadcasts_S512x1_S512x16))
  divf e (broadcastTo S512x16 (shapeCast S512x1
    (multiReduction .add [1] S512 e 0x00000000#32 reduces_S512x16_S512 (.inl rfl) rfl) shapeCasts_S512_S512x1)
    broadcasts_S512x1_S512x16)

/-- The weights are the softmax of the scores. -/
theorem weights_eq : k0_pay184 x0 x1 x2 x3 x4 = blockSoftmax (scoreBlock x0 x1 x2 x3 x4) := rfl

/-- The column word of a block, at column `c`. -/
theorem colWord_apply (r : Fin 512) (c : Fin 256) : k0_pay143 x0 x1 x2 x3 x4 (ix2 r c) = BitVec.ofNat 32 c.val := by
  pointwise [k0_pay143]

/-- The high word of a column: its quotient by 16. -/
theorem hiWord_apply (r : Fin 512) (c : Fin 256) : k0_pay154 x0 x1 x2 x3 x4 (ix2 r c) = BitVec.ofNat 32 (c.val / 16) := by
  pointwise [k0_pay154, k0_pay55, colWord_apply]
  revert c
  decide

/-- The low word of a column: its remainder by 16. -/
theorem loWord_apply (r : Fin 512) (c : Fin 256) : k0_pay155 x0 x1 x2 x3 x4 (ix2 r c) = BitVec.ofNat 32 (c.val % 16) := by
  pointwise [k0_pay155, k0_pay56, colWord_apply]
  revert c
  decide

/-- The pair block read at a column, as two ladders of selects. -/
theorem pairBlock_apply (r : Fin 512) (c : Fin 256) :
    pairBlock x0 x1 x2 x3 x4 (ix2 r c)
      = k0_pay152 x0 x1 x2 x3 x4 (ix2 r ⟨c.val / 16, by omega⟩) + k0_pay153 x0 x1 x2 x3 x4 (ix2 r ⟨c.val % 16, by omega⟩) := by
  have hlo := loWord_apply x0 x1 x2 x3 x4 r c
  have hhi := hiWord_apply x0 x1 x2 x3 x4 r c
  simp only [k0_pay155] at hlo
  generalize hV : k0_pay152 x0 x1 x2 x3 x4 = V
  generalize hI : k0_pay153 x0 x1 x2 x3 x4 = I
  unfold pairBlock k0_pay160 k0_pay159 k0_pay158 k0_pay157 k0_pay156 k0_pay155
  rw [hV, hI]
  pointwise [k0_pay68, k0_pay67, k0_pay66, k0_pay65, k0_pay64, k0_pay63, k0_pay62, k0_pay61, k0_pay60, k0_pay59, k0_pay58, k0_pay57, hhi]
  rw [hlo]
  exact congrArg₂ (· + ·) (ladder_table (fun n => V (ix2 r n)) ⟨c.val / 16, by omega⟩)
    (ladder_table (fun n => I (ix2 r n)) ⟨c.val % 16, by omega⟩)

/-- A row of the pair block is the row of pair scores of the similarity row. -/
theorem pairBlock_row (r : Fin 512) (hf : ∀ k, rowOf (simBlock x1 x2) r k ≠ ⊥) :
    rowOf (pairBlock x0 x1 x2 x3 x4) r = pairScore (rowOf (simBlock x1 x2) r) := by
  funext c
  have hc := c.isLt
  unfold rowOf
  rw [pairBlock_apply, firstVals_apply, firstIdx_apply, blockMax_blockAt _ r hf _ (by omega), blockArg_blockAt, sitofp_pos]
  rfl

/-- The expert numbers are the picks of the specification. -/
theorem expertIdx_row (r : Fin 512) (hf : ∀ k, rowOf (simBlock x1 x2) r k ≠ ⊥) (j : Fin 16) :
    k0_pay183 x0 x1 x2 x3 x4 (ix2 r j) = BitVec.ofNat 32 (expert (rowOf (simBlock x1 x2) r) j).val := by
  rw [expertIdx_apply, blockArg_blockAt, pairBlock_row _ _ _ _ _ r hf]
  rfl

/-- The scores are those of the specification. -/
theorem scoreBlock_row (r : Fin 512) (hf : ∀ k, rowOf (simBlock x1 x2) r k ≠ ⊥) (j : Fin 16) :
    scoreBlock x0 x1 x2 x3 x4 (ix2 r j) = score (rowOf (simBlock x1 x2) r) j := by
  have hj := j.isLt
  have hp := pairBlock_row x0 x1 x2 x3 x4 r hf
  rw [scoreBlock_apply, blockMax_blockAt _ r (by rw [hp]; exact pairScore_ne_bot hf) _ (by omega), hp]
  rfl

/-- The weights are the softmax of the specification. -/
theorem weights_row (r : Fin 512) (hf : ∀ k, rowOf (simBlock x1 x2) r k ≠ ⊥) (j : Fin 16) :
    k0_pay184 x0 x1 x2 x3 x4 (ix2 r j) = softmax (score (rowOf (simBlock x1 x2) r)) j := by
  rw [weights_eq]
  pointwise [blockSoftmax]
  simp only [scoreBlock_row _ _ _ _ _ r hf, ofBits_negInf]
  rfl

end Block

end Cert.Peer
-- ==== Proof.KernelBlock.lean ====
/- What one block of the kernel computes: its two stored blocks, row by row, in the vocabulary of the specification. -/
module

public import proofs.«01_k».proof.Proof.KernelSearch

@[expose] public section

set_option maxRecDepth 16384
set_option maxHeartbeats 4000000

noncomputable section

namespace Cert.Peer

open Idealize.ShloMosaic Idealize.SL.Sem Cert.KernelIdeal Cert.KernelIdeal.Gen

/-- Column `n` of a block of 16 columns can be cut out. -/
theorem slices_col (n : Fin 16) : S512x16.Slices ![0, n.val] S512x1 := by
  revert n; decide

/-- For every row the entry of `H` at the column that `K` names in its column `n`, picked by a masked sum. -/
def pickCol (K : IVec S512x16 32) (H : FVec Ideal S512x256 .f32) (n : Fin 16) : FVec Ideal S512x1 .f32 :=
  shapeCast S512x1 (multiReduction .add [1] S512
    (select (cmpi .eq colNo (broadcastTo S512x256 (extractStridedSlice S512x1 ![0, n.val] K (slices_col n))
      broadcasts_S512x1_S512x256)) H (broadcast S512x256 (Scalar.ofBits .f32 0x00000000#32)))
    0x00000000#32 reduces_S512x256_S512 (.inl rfl) rfl) shapeCasts_S512_S512x1

/-- Where `K` names column `e`, the masked sum is `H`'s entry there. -/
theorem pickCol_apply (K : IVec S512x16 32) (H : FVec Ideal S512x256 .f32) (n : Fin 16) (r : Fin 512) (e : Fin 256)
    (he : K (ix2 r n) = BitVec.ofNat 32 e.val) : pickCol K H n (ix2 r 0) = H (ix2 r e) := by
  pointwise [pickCol, colNo]
  simp only [zero_add, Fin.eta, he, cmpi_eq_cols]
  rw [Finset.sum_eq_single e]
  · simp [Scalar.select]
  · intro x _ hx; simp [Scalar.select, hx]
  · intro h; exact absurd (Finset.mem_univ _) h

section Block

variable (x0 : Vec Ideal S512x1024 .f32) (x1 : Vec Ideal S512x512 .f32) (x2 : Vec Ideal S256x512 .f32)
  (x3 x4 : Vec Ideal S256x1024 .f32)

/-- The block of hidden values of all 256 experts. -/
def allHidden : FVec Ideal S512x256 .f32 := k0_pay185 x0 x1 x2 x3 x4

/-- An entry of it is the inner product of a normalised token and an expert's input row. -/
theorem allHidden_apply (r : Fin 512) (c : Fin 256) :
    allHidden x0 x1 x2 x3 x4 (ix2 r c) = ∑ d : Fin 1024, x0 (ix2 r d) * x3 (ix2 c d) := by
  pointwise [allHidden, k0_pay185, k0_pay121]

/-- The block of the 16 chosen hidden values of each row. -/
def hiddenBlock : FVec Ideal S512x16 .f32 :=
  k0_pay134 (k0_pay143 x0 x1 x2 x3 x4) (k0_pay183 x0 x1 x2 x3 x4) (k0_pay185 x0 x1 x2 x3 x4) (k0_pay186 x0 x1 x2 x3 x4)
    (k0_pay187 x0 x1 x2 x3 x4) (k0_pay188 x0 x1 x2 x3 x4) (k0_pay189 x0 x1 x2 x3 x4) (k0_pay190 x0 x1 x2 x3 x4)
    (k0_pay191 x0 x1 x2 x3 x4) (k0_pay192 x0 x1 x2 x3 x4) (k0_pay193 x0 x1 x2 x3 x4) (k0_pay194 x0 x1 x2 x3 x4)
    (k0_pay195 x0 x1 x2 x3 x4) (k0_pay196 x0 x1 x2 x3 x4) (Scalar.ofBits .f32 0x00000000#32)

/-- Column `j` of it is the masked sum at the `j`-th expert number. -/
theorem hiddenBlock_apply (r : Fin 512) (j : Fin 16) :
    hiddenBlock x0 x1 x2 x3 x4 (ix2 r j)
      = pickCol (k0_pay183 x0 x1 x2 x3 x4) (allHidden x0 x1 x2 x3 x4) j (ix2 r 0) :=
  concat16_ofFn (pickCol (k0_pay183 x0 x1 x2 x3 x4) (allHidden x0 x1 x2 x3 x4))
    concatenates_S512x1_S512x1_S512x1_S512x1_S512x1_S512x1_S512x1_S512x1_S512x1_S512x1_S512x1_S512x1_S512x1_S512x1_S512x1_S512x1_S512x16_d1
    r j

/-- The chosen hidden values are those of the specification. -/
theorem hiddenBlock_row (r : Fin 512) (hf : ∀ k, rowOf (simBlock x1 x2) r k ≠ ⊥) (j : Fin 16) :
    hiddenBlock x0 x1 x2 x3 x4 (ix2 r j) = hidden (rowOf (simBlock x1 x2) r) (rowOf (allHidden x0 x1 x2 x3 x4) r) j := by
  rw [hiddenBlock_apply, pickCol_apply _ _ j r _ (expertIdx_row x0 x1 x2 x3 x4 r hf j)]
  rfl

/-- The block of coefficients of the 16 chosen experts of each row. -/
def coefBlock : FVec Ideal S512x16 .f32 :=
  k0_pay138 (k0_pay184 x0 x1 x2 x3 x4) (k0_pay197 x0 x1 x2 x3 x4) (k0_pay198 x0 x1 x2 x3 x4) (k0_pay199 x0 x1 x2 x3 x4)

/-- The coefficients are those of the specification. -/
theorem coefBlock_row (r : Fin 512) (hf : ∀ k, rowOf (simBlock x1 x2) r k ≠ ⊥) (j : Fin 16) :
    coefBlock x0 x1 x2 x3 x4 (ix2 r j) = coef (rowOf (simBlock x1 x2) r) (rowOf (allHidden x0 x1 x2 x3 x4) r) j := by
  have h1 : k0_pay197 x0 x1 x2 x3 x4
      = mulf (broadcast S512x16 (Scalar.ofBits .f32 0x3F000000#32)) (hiddenBlock x0 x1 x2 x3 x4) := rfl
  have h2 : k0_pay198 x0 x1 x2 x3 x4
      = erf (mulf (hiddenBlock x0 x1 x2 x3 x4) (broadcast S512x16 (Named.named κ "rsqrt2" 0x3F3504F3#32))) := rfl
  unfold coefBlock
  rw [h1, h2]
  pointwise [k0_pay138, k0_pay199, k0_pay137]
  rw [weights_row _ _ _ _ _ r hf, hiddenBlock_row _ _ _ _ _ r hf]
  rfl

/-- The block of the weight matrix that the kernel builds: the coefficients scattered to the columns of their experts. -/
def scatterBlock : FVec Ideal S512x256 .bf16 :=
  k0_pay142 (k0_pay143 x0 x1 x2 x3 x4) (k0_pay183 x0 x1 x2 x3 x4) (coefBlock x0 x1 x2 x3 x4)
    (k0_pay139 (k0_pay143 x0 x1 x2 x3 x4) (k0_pay183 x0 x1 x2 x3 x4) (k0_pay184 x0 x1 x2 x3 x4) (k0_pay197 x0 x1 x2 x3 x4)
      (k0_pay198 x0 x1 x2 x3 x4) (k0_pay199 x0 x1 x2 x3 x4))
    (k0_pay140 (k0_pay143 x0 x1 x2 x3 x4) (k0_pay183 x0 x1 x2 x3 x4))
    (k0_pay141 (k0_pay184 x0 x1 x2 x3 x4) (k0_pay197 x0 x1 x2 x3 x4) (k0_pay198 x0 x1 x2 x3 x4) (k0_pay199 x0 x1 x2 x3 x4))

/-- An entry of it is a ladder over the 16 expert numbers of its row. -/
theorem scatterBlock_apply (r : Fin 512) (c : Fin 256) :
    scatterBlock x0 x1 x2 x3 x4 (ix2 r c)
      = ladder (BitVec.ofNat 32 c.val) (fun n => k0_pay183 x0 x1 x2 x3 x4 (ix2 r (Fin.ofNat 16 n)))
          (fun n => coefBlock x0 x1 x2 x3 x4 (ix2 r (Fin.ofNat 16 n))) 16 := by
  have hc : k0_pay138 (k0_pay184 x0 x1 x2 x3 x4) (k0_pay197 x0 x1 x2 x3 x4) (k0_pay198 x0 x1 x2 x3 x4)
    (k0_pay199 x0 x1 x2 x3 x4) = coefBlock x0 x1 x2 x3 x4 := rfl
  unfold scatterBlock k0_pay139 k0_pay141
  rw [hc]
  generalize coefBlock x0 x1 x2 x3 x4 = C
  generalize k0_pay183 x0 x1 x2 x3 x4 = K
  pointwise [k0_pay142, k0_pay140, colWord_apply]
  rfl

/-- The first stored block. -/
def outBlock : FVec Ideal S512x1024 .f32 := k0_pay1 (scatterBlock x0 x1 x2 x3 x4) (View.ld x4 r0_3)

/-- An entry of it is the specification's mix of the chosen experts' output rows. -/
theorem outBlock_row (r : Fin 512) (hf : ∀ k, rowOf (simBlock x1 x2) r k ≠ ⊥) (d : Fin 1024) :
    outBlock x0 x1 x2 x3 x4 (ix2 r d)
      = mix (rowOf (simBlock x1 x2) r) (rowOf (allHidden x0 x1 x2 x3 x4) r) (fun c => x4 (ix2 c d)) := by
  pointwise [outBlock, k0_pay1]
  simp only [scatterBlock_apply, expertIdx_row _ _ _ _ _ r hf, coefBlock_row _ _ _ _ _ r hf]
  refine sum_scatter (fun j => expert (rowOf (simBlock x1 x2) r) j.val) ?_ _ _
  intro i j h
  have hi := i.isLt
  have hj := j.isLt
  exact Fin.ext ((expert_inj hf (by omega) (by omega)).mp h)

end Block

end Cert.Peer
-- ==== Proof.KernelArray.lean ====
/- What the kernel's arrays hold: the arrays its host operations prepare, read at an index, and the two result arrays as
   functions of the argument arrays. -/
module

public import proofs.«01_k».proof.Proof.KernelBlock
public import proofs.«01_k».proof.Proof.TokenSpec
public import proofs.«01_k».proof.Proof.Gen.KernelIdeal.Value
public import Idealize.ShloMosaic.Lib.Pipeline.ValueKit
public import Idealize.ShloMosaic.Lib.Claim
public import Idealize.ShloMosaic.Lib.StableHlo.ReadAt

@[expose] public section

set_option maxRecDepth 16384
set_option maxHeartbeats 4000000

noncomputable section

namespace Cert.Peer

open Idealize.ShloMosaic Idealize.ShloMosaic.TcCoe Idealize.SL.Sem Cert.KernelIdeal Cert.KernelIdeal.Gen

variable (m : (ℓ : Loc nD τ sig) → Buf (Elt Ideal) ℓ) (c : Dev nD)

/-- The kernel's argument arrays at an index: the tokens, the gains, the query columns, the first half's keys, and the first
    256 rows of the two expert tables. -/
def argX (i : Fin 4096) (d : Fin 1024) : EReal := (m ((c : Thread nD τ).loc main_arg0) : Vec Ideal S4096x1024 .f32) (ix2 i d)
/-- The gains. -/
def argG (d : Fin 1024) : EReal := (m ((c : Thread nD τ).loc main_arg2) : Vec Ideal S1024 .f32) (ix1 d)
/-- The projection's first 512 columns. -/
def argW (k : Fin 1024) (d : Fin 512) : EReal :=
  (m ((c : Thread nD τ).loc main_arg3) : Vec Ideal S1024x1024 .f32) (ix2 k ⟨d.val, by omega⟩)
/-- The first half's keys. -/
def argK (e : Fin 256) (d : Fin 512) : EReal :=
  (m ((c : Thread nD τ).loc main_arg4) : Vec Ideal S1x256x2x512 .f32) (ix4 0 e 0 d)
/-- The first 256 rows of the first expert table. -/
def argD (e : Fin 256) (d : Fin 1024) : EReal :=
  (m ((c : Thread nD τ).loc main_arg5) : Vec Ideal S65536x1024 .f32) (ix2 ⟨e.val, by omega⟩ d)
/-- The first 256 rows of the second expert table. -/
def argU (e : Fin 256) (d : Fin 1024) : EReal :=
  (m ((c : Thread nD τ).loc main_arg6) : Vec Ideal S65536x1024 .f32) (ix2 ⟨e.val, by omega⟩ d)

/-- The array of tokens that the host operations prepare holds the normalised tokens. -/
theorem entry_tokens (i : Fin 4096) (d : Fin 1024) :
    (V m c main_call0_v9 : Vec Ideal S4096x1024 .f32) (ix2 i d) = normed (argX m c) (argG m c) i d := by
  unfold V normed argX argG
  after_reads_at

/-- The array of queries holds the projection of the normalised tokens to the first 512 columns. -/
theorem entry_queries (i : Fin 4096) (d : Fin 512) :
    (V m c main_call0_v11 : Vec Ideal S4096x512 .f32) (ix2 i d)
      = ∑ k : Fin 1024, normed (argX m c) (argG m c) i k * argW m c k d := by
  unfold V normed argX argG argW
  after_reads_at

/-- The array of keys holds the first half's keys. -/
theorem entry_keys (e : Fin 256) (d : Fin 512) :
    (V m c main_call0_v13 : Vec Ideal S256x512 .f32) (ix2 e d) = argK m c e d := by
  unfold V argK
  after_reads_at

/-- Where each window's block starts, in units of blocks, at every grid point. -/
theorem windowIdx : ∀ t : Fin cfg0.N, win0_0.index t = ![t.val, 0] ∧ win0_1.index t = ![t.val, 0] ∧ win0_2.index t = ![0, 0]
    ∧ win0_3.index t = ![0, 0] ∧ win0_4.index t = ![0, 0] ∧ win0_5.index t = ![t.val, 0] ∧ win0_6.index t = ![t.val, 0] :=
  (by decide +kernel : ∀ t : Fin grid0.N, _)

/-- The token that row `r` of grid point `t`'s block is. -/
def tokenOf (t : Fin cfg0.N) (r : Fin 512) : Fin 4096 := ⟨512 * t.val + r.val, by
  have h : t.val < 8 := t.isLt
  omega⟩

/-- The kernel's similarities and hidden values of all tokens. -/
def simK (i : Fin 4096) : Fin 256 → EReal := similarity (normed (argX m c) (argG m c)) (argW m c) (argK m c) i
/-- The kernel's hidden values of all tokens. -/
def hidK (i : Fin 4096) : Fin 256 → EReal := hiddenAll (normed (argX m c) (argG m c)) (argD m c) i

/-- The block of tokens at a grid point holds the normalised tokens of that block. -/
theorem block_tokens (t : Fin cfg0.N) (r : Fin 512) (d : Fin 1024) :
    (iblk m c 0 t : Vec Ideal S512x1024 .f32) (ix2 r d) = normed (argX m c) (argG m c) (tokenOf t r) d := by
  rw [← entry_tokens]
  blk_ext [iblk, windowIdx t, tokenOf]

/-- The block of queries at a grid point holds the queries of that block's tokens. -/
theorem block_queries (t : Fin cfg0.N) (r : Fin 512) (d : Fin 512) :
    (iblk m c 1 t : Vec Ideal S512x512 .f32) (ix2 r d)
      = ∑ k : Fin 1024, normed (argX m c) (argG m c) (tokenOf t r) k * argW m c k d := by
  rw [← entry_queries]
  blk_ext [iblk, windowIdx t, tokenOf]

/-- The block of keys holds all the keys of the first head. -/
theorem block_keys (t : Fin cfg0.N) (e : Fin 256) (d : Fin 512) :
    (iblk m c 2 t : Vec Ideal S256x512 .f32) (ix2 e d) = argK m c e d := by
  rw [← entry_keys]
  blk_ext [iblk, windowIdx t]

/-- The block of the first expert table holds its first 256 rows. -/
theorem block_down (t : Fin cfg0.N) (e : Fin 256) (d : Fin 1024) :
    (iblk m c 3 t : Vec Ideal S256x1024 .f32) (ix2 e d) = argD m c e d := by
  unfold argD
  blk_ext [iblk, V, windowIdx t]

/-- The block of the second expert table holds its first 256 rows. -/
theorem block_up (t : Fin cfg0.N) (e : Fin 256) (d : Fin 1024) :
    (iblk m c 4 t : Vec Ideal S256x1024 .f32) (ix2 e d) = argU m c e d := by
  unfold argU
  blk_ext [iblk, V, windowIdx t]

/-- A row of the block's similarities is the similarities of that row's token. -/
theorem simBlock_row (t : Fin cfg0.N) (r : Fin 512) :
    rowOf (simBlock (iblk m c 1 t) (iblk m c 2 t)) r = simK m c (tokenOf t r) := by
  funext k
  unfold rowOf simK similarity
  rw [simBlock_apply]
  exact Finset.sum_congr rfl fun d _ => congrArg₂ (· * ·) (block_queries m c t r d) (block_keys m c t k d)

/-- A row of the block's hidden values is the hidden values of that row's token. -/
theorem allHidden_row (t : Fin cfg0.N) (r : Fin 512) :
    rowOf (allHidden (iblk m c 0 t) (iblk m c 1 t) (iblk m c 2 t) (iblk m c 3 t) (iblk m c 4 t)) r
      = hidK m c (tokenOf t r) := by
  funext k
  unfold rowOf hidK hiddenAll
  rw [allHidden_apply]
  exact Finset.sum_congr rfl fun d _ => congrArg₂ (· * ·) (block_tokens m c t r d) (block_down m c t k d)

/-- What a grid point stores in the first result, at the row of a token. -/
theorem outBlock_token (hf : ∀ i k, simK m c i k ≠ ⊥) (t : Fin cfg0.N) (y : S512x1024.Idx) :
    k0_pay1 (scatterBlock (iblk m c 0 t) (iblk m c 1 t) (iblk m c 2 t) (iblk m c 3 t) (iblk m c 4 t)) (iblk m c 4 t) y
      = mix (simK m c (tokenOf t (y 0))) (hidK m c (tokenOf t (y 0))) (fun e => argU m c e (y 1)) := by
  obtain ⟨r, d, rfl⟩ : ∃ (r : Fin 512) (d : Fin 1024), y = ix2 r d := ⟨y 0, y 1, eq_ix2 y⟩
  have h := outBlock_row (iblk m c 0 t) (iblk m c 1 t) (iblk m c 2 t) (iblk m c 3 t) (iblk m c 4 t) r
    (by rw [simBlock_row]; exact hf _) d
  rw [simBlock_row, allHidden_row] at h
  rw [funext fun e => block_up m c t e d] at h
  refine Eq.trans ?_ h
  unfold outBlock
  rw [View.ld_unit_zero (S := S256x1024) (by funext a; fin_cases a <;> rfl)]

/-- What a grid point stores in the second result, at the row of a token. -/
theorem hiddenBlock_token (hf : ∀ i k, simK m c i k ≠ ⊥) (t : Fin cfg0.N) (y : S512x16.Idx) :
    hiddenBlock (iblk m c 0 t) (iblk m c 1 t) (iblk m c 2 t) (iblk m c 3 t) (iblk m c 4 t) y
      = hidden (simK m c (tokenOf t (y 0))) (hidK m c (tokenOf t (y 0))) (y 1) := by
  obtain ⟨r, j, rfl⟩ : ∃ (r : Fin 512) (j : Fin 16), y = ix2 r j := ⟨y 0, y 1, eq_ix2 y⟩
  have h := hiddenBlock_row (iblk m c 0 t) (iblk m c 1 t) (iblk m c 2 t) (iblk m c 3 t) (iblk m c 4 t) r
    (by rw [simBlock_row]; exact hf _) j
  rw [simBlock_row, allHidden_row] at h
  exact h

/-- The first result array, where no similarity is −∞. -/
theorem final_out (hf : ∀ i k, simK m c i k ≠ ⊥) : ((dats m 0 c).arrAt 5 cfg0.N : Vec Ideal S4096x1024 .f32)
    = fun i => mix (simK m c (i 0)) (hidK m c (i 0)) (fun e => argU m c e (i 1)) := by
  refine (dats m 0 c).arrAt_eq_of_covers 5 _ (by decide +kernel) fun t _ y => ?_
  blk_simp
  rw [after0_5]
  frame_out
  refine (outBlock_token m c hf t y).trans ?_
  have e0 : ((View.whole main_v0_0).slice (win0_5.rect t)).emb y 0 = tokenOf t (y 0) := by
    apply Fin.ext; blk_simp [windowIdx t, tokenOf]; rw [Nat.mul_comm]
  have e1 : ((View.whole main_v0_0).slice (win0_5.rect t)).emb y 1 = (y 1 : Fin 1024) := by
    apply Fin.ext; blk_simp [windowIdx t]
  rw [e0, e1]

/-- The second result array, where no similarity is −∞. -/
theorem final_hidden (hf : ∀ i k, simK m c i k ≠ ⊥) : ((dats m 0 c).arrAt 6 cfg0.N : Vec Ideal S4096x16 .f32)
    = fun i => hidden (simK m c (i 0)) (hidK m c (i 0)) (i 1) := by
  refine (dats m 0 c).arrAt_eq_of_covers 6 _ (by decide +kernel) fun t _ y => ?_
  blk_simp
  rw [after0_6]
  frame_out
  refine (hiddenBlock_token m c hf t y).trans ?_
  have e0 : ((View.whole main_v0_1).slice (win0_6.rect t)).emb y 0 = tokenOf t (y 0) := by
    apply Fin.ext; blk_simp [windowIdx t, tokenOf]; rw [Nat.mul_comm]
  have e1 : ((View.whole main_v0_1).slice (win0_6.rect t)).emb y 1 = (y 1 : Fin 16) := by
    apply Fin.ext; blk_simp [windowIdx t]
  rw [e0, e1]

end Cert.Peer
-- ==== Proof.ReferenceTokens.lean ====
/- What the reference computes before it chooses experts: the normalised tokens and their similarities to the keys. -/
module

public import proofs.«01_k».proof.Proof.TokenSpec
public import proofs.«01_k».proof.Proof.Gen.ReferenceIdeal.Run
public import Idealize.ShloMosaic.Lib.StableHlo.ReadAt

@[expose] public section

set_option maxRecDepth 16384
set_option maxHeartbeats 4000000

noncomputable section

namespace Cert.Peer.Ref

open Idealize.ShloMosaic Idealize.ShloMosaic.TcCoe Idealize.SL.Sem Idealize.ShloMosaic.StableHlo
open Cert.ReferenceIdeal Cert.ReferenceIdeal.Gen Cert.ReferenceIdeal.Value

variable (V0 : Valuation τ sig (Elt Ideal))

/-- The reference's argument arrays at an index: the tokens, the gains, the query columns, the first half's keys, and the
    first 256 rows of the two expert tables. -/
def argX (i : Fin 4096) (d : Fin 1024) : EReal := (V0 (Proc.devRef .tc main_arg0) : Vec Ideal S4096x1024 .f32) (ix2 i d)
/-- The gains. -/
def argG (d : Fin 1024) : EReal := (V0 (Proc.devRef .tc main_arg2) : Vec Ideal S1024 .f32) (ix1 d)
/-- The projection's first 512 columns. -/
def argW (k : Fin 1024) (d : Fin 512) : EReal :=
  (V0 (Proc.devRef .tc main_arg3) : Vec Ideal S1024x1024 .f32) (ix2 k ⟨d.val, by omega⟩)
/-- The first half's keys. -/
def argK (e : Fin 256) (d : Fin 512) : EReal :=
  (V0 (Proc.devRef .tc main_arg4) : Vec Ideal S1x256x2x512 .f32) (ix4 0 e 0 d)
/-- The first 256 rows of the first expert table. -/
def argD (e : Fin 256) (d : Fin 1024) : EReal :=
  (V0 (Proc.devRef .tc main_arg5) : Vec Ideal S65536x1024 .f32) (ix2 ⟨e.val, by omega⟩ d)
/-- The first 256 rows of the second expert table. -/
def argU (e : Fin 256) (d : Fin 1024) : EReal :=
  (V0 (Proc.devRef .tc main_arg6) : Vec Ideal S65536x1024 .f32) (ix2 ⟨e.val, by omega⟩ d)

/-- The reference's similarities of all tokens. -/
def simR (i : Fin 4096) : Fin 256 → EReal := similarity (normed (argX V0) (argG V0)) (argW V0) (argK V0) i
/-- The reference's hidden values of all tokens. -/
def hidR (i : Fin 4096) : Fin 256 → EReal := hiddenAll (normed (argX V0) (argG V0)) (argD V0) i

/-- The reference's normalised tokens. -/
theorem tokens_apply (i : Fin 4096) (d : Fin 1024) :
    (res_main_v9 V0 : Vec Ideal S4096x1024 .f32) (ix2 i d) = normed (argX V0) (argG V0) i d := by
  unfold res_main_v9 normed argX argG
  clean_types
  pointwise

/-- The reference's similarities: of the two halves it computes, it keeps the first. -/
theorem similarity_apply (i : Fin 4096) (c : Fin 256) :
    (res_main_v15 V0 : Vec Ideal S4096x1x256 .f32) (ix3 i 0 c) = simR V0 i c := by
  unfold res_main_v15 simR similarity argK argW
  clean_types
  have h : ∀ d, normed (argX V0) (argG V0) i d = (res_main_v9 V0 : Vec Ideal S4096x1024 .f32) (ix2 i d) :=
    fun d => (tokens_apply V0 i d).symm
  simp only [h]
  generalize (res_main_v9 V0 : Vec Ideal S4096x1024 .f32) = T
  pointwise

end Cert.Peer.Ref
-- ==== Proof.TopK.lean ====
/- The stable top-16 of rows of 256 entries, read at an index: the row's first maxima in order, and their positions. -/
module

public import proofs.«01_k».proof.Proof.TopRounds
public import Idealize.ShloMosaic.Lib.Pointwise

@[expose] public section

set_option maxRecDepth 16384

noncomputable section

namespace Cert.Peer

open Idealize.ShloMosaic

/-- A float comparison "greater", as the order of the extended reals. -/
theorem cmpfTotal_gt_eq (a b : EReal) : ((FloatOps.cmpfTotal (F := Ideal) (φ := .f32) .gt a b) == 1#1) = decide (b < a) := by
  rw [Ideal.cmpfTotal_def]
  by_cases h : b < a <;> simp [Ideal.cmp, CmpDirection.ordered, h]

section

variable {n N k : Nat} [NeZero N] (x : FVec Ideal (⟨3, ![n, 1, N]⟩ : Shape) .f32)
  (h : (⟨3, ![n, 1, N]⟩ : Shape).Slices (fun _ => 0) ⟨3, ![n, 1, k]⟩)

/-- An index moved along its last axis. -/
theorem along_last (q : (⟨3, ![n, 1, N]⟩ : Shape).Idx) (i : Fin n) (hi : q 0 = i) (c : Fin N) : q.along 2 c = ix3 i 0 c := by
  unfold Shape.Idx.along
  funext a
  fin_cases a
  · exact hi
  · exact Subsingleton.elim (α := Fin 1) _ _
  · rfl

/-- The order by which each row is sorted: its first maxima first. -/
theorem topK_order (f : Fin N → EReal) (q : (⟨3, ![n, 1, N]⟩ : Shape).Idx) (i : Fin n) (hi : q 0 = i) (r : Fin N)
    (hf : ∀ c, x (ix3 i 0 c) = f c) (hb : ∀ c, f c ≠ ⊥) :
    sortedFrom (n := N) (fun c c' => FloatOps.cmpfTotal (F := Ideal) (φ := .f32) .gt (x (q.along 2 c)) (x (q.along 2 c')) == 1#1)
      r = pick f r.val := by
  refine Eq.trans (congrArg (fun b => sortedFrom b r) ?_) (sortedFrom_eq_pick hb r)
  funext c c'
  have e : ∀ c : Fin N, x (q.along 2 c) = f c := fun c => (congrArg x (along_last q i hi c)).trans (hf c)
  refine (congrArg₂ (fun u v => FloatOps.cmpfTotal (F := Ideal) (φ := .f32) .gt u v == 1#1) (e c) (e c')).trans ?_
  exact cmpfTotal_gt_eq _ _

/-- The `j`-th value of a row's top-k is the row's entry at its `j`-th first maximum. -/
theorem topK_values (f : Fin N → EReal) (i : Fin n) (hf : ∀ c, x (ix3 i 0 c) = f c) (hb : ∀ c, f c ≠ ⊥) (j : Fin k) :
    (Host.topK ⟨3, ![n, 1, k]⟩ 2 (FloatOps.cmpfTotal (F := Ideal) (φ := .f32) .gt) x h).1 (ix3 i 0 j) = f (pick f j.val) := by
  pointwise [Host.topK, Host.sort2]
  generalize hq : (Shape.Idx.norm fun a => _ : (⟨3, ![n, 1, N]⟩ : Shape).Idx) = q
  have q0 : q 0 = i := by rw [← hq]; rfl
  have q2 : (q 2).val = j.val := by rw [← hq]; rfl
  refine (congrArg (fun c : Fin N => x (q.along 2 c)) (topK_order x f q i q0 (q 2) hf hb)).trans ?_
  exact (congrArg x (along_last q i q0 _)).trans ((hf _).trans (by rw [q2]))

/-- The `j`-th index of a row's top-k is the position of its `j`-th first maximum. -/
theorem topK_indices (f : Fin N → EReal) (i : Fin n) (hf : ∀ c, x (ix3 i 0 c) = f c) (hb : ∀ c, f c ≠ ⊥) (j : Fin k) :
    (Host.topK ⟨3, ![n, 1, k]⟩ 2 (FloatOps.cmpfTotal (F := Ideal) (φ := .f32) .gt) x h).2 (ix3 i 0 j)
      = BitVec.ofNat 32 (pick f j.val).val := by
  pointwise [Host.topK, Host.sort2]
  generalize hq : (Shape.Idx.norm fun a => _ : (⟨3, ![n, 1, N]⟩ : Shape).Idx) = q
  have q0 : q 0 = i := by rw [← hq]; rfl
  have q2 : (q 2).val = j.val := by rw [← hq]; rfl
  refine (congrArg (fun c : Fin N => BitVec.ofNat 32 ((q.along 2 c) 2).val) (topK_order x f q i q0 (q 2) hf hb)).trans ?_
  exact (congrArg (fun p : (⟨3, ![n, 1, N]⟩ : Shape).Idx => BitVec.ofNat 32 (p 2).val) (along_last q i q0 _)).trans
    (congrArg (fun v => BitVec.ofNat 32 (pick f v).val) q2)

end

end Cert.Peer
-- ==== Proof.ReferenceExperts.lean ====
/- How the reference chooses experts: the 256 pair scores of a token, and the 16 best of them with their numbers. -/
module

public import proofs.«01_k».proof.Proof.ReferenceTokens
public import proofs.«01_k».proof.Proof.TopK

@[expose] public section

set_option maxRecDepth 16384
set_option maxHeartbeats 4000000

noncomputable section

namespace Cert.Peer.Ref

open Idealize.ShloMosaic Idealize.ShloMosaic.TcCoe Idealize.SL.Sem Idealize.ShloMosaic.StableHlo
open Cert.ReferenceIdeal Cert.ReferenceIdeal.Gen Cert.ReferenceIdeal.Value

variable (V0 : Valuation τ sig (Elt Ideal)) (hb : ∀ i k, simR V0 i k ≠ ⊥)
include hb

/-- A token's pair scores. -/
theorem pairs_apply (i : Fin 4096) (c : Fin 256) :
    (res_main_v22 V0 : Vec Ideal S4096x1x256 .f32) (ix3 i 0 c) = pairScore (simR V0 i) c := by
  have hv := topK_values (k := 16) (res_main_v15 V0 : Vec Ideal S4096x1x256 .f32) sliceFits_S4096x1x256_S4096x1x16
    (simR V0 i) i (similarity_apply V0 i) (hb i)
  have hi := topK_indices (k := 16) (res_main_v15 V0 : Vec Ideal S4096x1x256 .f32) sliceFits_S4096x1x256_S4096x1x16
    (simR V0 i) i (similarity_apply V0 i) (hb i)
  unfold res_main_v22 pairScore
  clean_types
  generalize (Host.topK S4096x1x16 2 (FloatOps.cmpfTotal (F := Ideal) (φ := .f32) .gt) (res_main_v15 V0) sliceFits_S4096x1x256_S4096x1x16).1 = vals at *
  generalize (Host.topK S4096x1x16 2 (FloatOps.cmpfTotal (F := Ideal) (φ := .f32) .gt) (res_main_v15 V0) sliceFits_S4096x1x256_S4096x1x16).2 = inds at *
  pointwise
  rw [hv, hi, sitofp_pos]

/-- A token's 16 best pair scores. -/
theorem scores_apply (i : Fin 4096) (j : Fin 16) :
    (res_main_values_1 V0 : Vec Ideal S4096x1x16 .f32) (ix3 i 0 j) = score (simR V0 i) j :=
  topK_values (res_main_v22 V0 : Vec Ideal S4096x1x256 .f32) sliceFits_S4096x1x256_S4096x1x16
    (pairScore (simR V0 i)) i (pairs_apply V0 hb i) (pairScore_ne_bot (hb i)) j

/-- A token's 16 chosen experts. -/
theorem experts_apply (i : Fin 4096) (j : Fin 16) :
    (res_main_indices_2 V0 : IVec S4096x1x16 32) (ix3 i 0 j) = BitVec.ofNat 32 (expert (simR V0 i) j).val :=
  topK_indices (res_main_v22 V0 : Vec Ideal S4096x1x256 .f32) sliceFits_S4096x1x256_S4096x1x16
    (pairScore (simR V0 i)) i (pairs_apply V0 hb i) (pairScore_ne_bot (hb i)) j

end Cert.Peer.Ref
-- ==== Proof.ReferenceResults.lean ====
/- What the reference's two results hold: the chosen rows of the two expert tables, the hidden values, their activations and
   softmax weights, and the weighted sum. -/
module

public import proofs.«01_k».proof.Proof.ReferenceExperts
public import proofs.«01_k».proof.Proof.Consts
public import Idealize.ShloMosaic.PureOps.Ideal.Laws

@[expose] public section

set_option maxRecDepth 16384
set_option maxHeartbeats 4000000

noncomputable section

namespace Cert.Peer.Ref

open Idealize.ShloMosaic Idealize.ShloMosaic.TcCoe Idealize.SL.Sem Idealize.ShloMosaic.StableHlo
open Cert.ReferenceIdeal Cert.ReferenceIdeal.Gen Cert.ReferenceIdeal.Value

/-- A gathered row: where the start index is the number of one of the first 256 rows, that row of the table. -/
theorem gather_expert (x : FVec Ideal S65536x1024 .f32) (idx : IVec S4096x1x16x1 32) (i : Fin 4096) (j : Fin 16) (d : Fin 1024)
    (e : Fin 256) (he : idx (ix4 i 0 j 0) = BitVec.ofNat 32 e.val) :
    Host.gather gather_S65536x1024_S4096x1x16x1_S4096x1x16x1024_3_0_n_n_0_3_11024 x idx (ix4 i 0 j d)
      = x (ix2 ⟨e.val, by omega⟩ d) := by
  have hlt := e.isLt
  have ht : (BitVec.ofNat 32 e.val).toInt = (e.val : Int) := WordArith.toInt_ofNat_small _ (by omega)
  unfold Host.gather
  have hs : gather_S65536x1024_S4096x1x16x1_S4096x1x16x1024_3_0_n_n_0_3_11024.siIdx (ix4 i 0 j d) ⟨0, by decide⟩ = ix4 i 0 j 0 := by
    funext b
    fin_cases b
    all_goals rfl
  refine congrArg x (funext fun a => Fin.ext ?_)
  fin_cases a
  · show min (idx (gather_S65536x1024_S4096x1x16x1_S4096x1x16x1024_3_0_n_n_0_3_11024.siIdx (ix4 i 0 j d) ⟨0, by decide⟩)).toInt.toNat 65535 + 0 + 0 = e.val
    rw [hs, he, ht]
    omega
  · show 0 + 0 + d.val = d.val
    omega

/-- The word of one of the first 256 rows, wrapped as an index, stays itself. -/
theorem wrap_expert (e : Fin 256) (a : BitVec 32) :
    Scalar.select (IntOp.cmpi .slt (BitVec.ofNat 32 e.val) 0#32) a (BitVec.ofNat 32 e.val) = BitVec.ofNat 32 e.val := by
  have h : IntOp.cmpi .slt (BitVec.ofNat 32 e.val) 0#32 = 0#1 := by revert e; decide
  rw [h]
  rfl

/-- The word of one of the first 256 rows passes the bounds test of a table of 65536 rows. -/
theorem inBounds_expert (e : Fin 256) :
    IntOp.andi (IntOp.cmpi .sge (BitVec.ofNat 32 e.val) 0#32) (IntOp.cmpi .sle (BitVec.ofNat 32 e.val) 65535#32) = 1#1 := by
  revert e; decide

/-- The rows of a table that the index words `idx` name, with a fill value where a word is out of bounds. -/
abbrev takeRows (x : FVec Ideal S65536x1024 .f32) (idx : IVec S4096x1x16x1 32) : FVec Ideal S4096x1x16x1024 .f32 :=
  select (broadcastInDim S4096x1x16x1024 ![0, 1, 2] bcast_S4096x1x16_S4096x1x16x1024_0_1_2 (Host.reduce IntOp.andi (andi (cmpi .sge idx (broadcastInDim S4096x1x16x1 ![] bcast_S_S4096x1x16x1 (constantI S_ 32 0#32))) (cmpi .sle idx (broadcastInDim S4096x1x16x1 ![0, 1, 2, 3] bcast_S1x1x1x1_S4096x1x16x1_0_1_2_3 (broadcastInDim S1x1x1x1 ![3] bcast_S1_S1x1x1x1_3 (constantI S1 32 65535#32))))) (constantI S_ 1 1#1) reducesTo_S4096x1x16x1_S4096x1x16_d3 h_S_)) (Host.gather gather_S65536x1024_S4096x1x16x1_S4096x1x16x1024_3_0_n_n_0_3_11024 x idx) (broadcastInDim S4096x1x16x1024 ![] bcast_S_S4096x1x16x1024 (constant S_ .f32 0x7FC00000#32))

/-- A row taken from a table, where the index word is the number of one of the first 256 rows. -/
theorem takeRows_apply (x : FVec Ideal S65536x1024 .f32) (idx : IVec S4096x1x16x1 32) (i : Fin 4096) (j : Fin 16) (d : Fin 1024)
    (e : Fin 256) (he : idx (ix4 i 0 j 0) = BitVec.ofNat 32 e.val) :
    takeRows x idx (ix4 i 0 j d) = x (ix2 ⟨e.val, by omega⟩ d) := by
  have hg := gather_expert x idx i j d e he
  unfold takeRows
  generalize Host.gather gather_S65536x1024_S4096x1x16x1_S4096x1x16x1024_3_0_n_n_0_3_11024 x idx = g at *
  have one : ∀ f : Fin 1 → BitVec 1, Finset.univ.fold IntOp.andi 1#1 f = IntOp.andi (f 0) 1#1 := fun f => by
    rw [Finset.univ_unique, Finset.fold_singleton]; rfl
  pointwise
  rw [one, he, inBounds_expert, hg]
  rfl

/-- An index of two axes is the pair of its coordinates. -/
theorem ix2_eta {a b : ℕ} (y : (⟨2, ![a, b]⟩ : Shape).Idx) : y = ix2 (y 0) (y 1) := by
  funext k
  fin_cases k <;> rfl

variable (V0 : Valuation τ sig (Elt Ideal)) (hb : ∀ i k, simR V0 i k ≠ ⊥)
include hb

/-- The index words of the first take: the chosen experts. -/
theorem downIdx_apply (i : Fin 4096) (j : Fin 16) :
    (res_main_call1_v5 V0 : IVec S4096x1x16x1 32) (ix4 i 0 j 0) = BitVec.ofNat 32 (expert (simR V0 i) j).val := by
  have h := experts_apply V0 hb i j
  unfold res_main_call1_v5
  clean_types
  generalize (res_main_indices_2 V0 : IVec S4096x1x16 32) = E at *
  pointwise
  rw [h, wrap_expert]

/-- The index words of the second take: the chosen experts again. -/
theorem upIdx_apply (i : Fin 4096) (j : Fin 16) :
    (res_main_call2_v5 V0 : IVec S4096x1x16x1 32) (ix4 i 0 j 0) = BitVec.ofNat 32 (expert (simR V0 i) j).val :=
  downIdx_apply V0 hb i j

/-- The reference's hidden values of the chosen experts. -/
theorem hidden_apply (i : Fin 4096) (j : Fin 16) :
    (res_main_v25 V0 : Vec Ideal S4096x1x16 .f32) (ix3 i 0 j) = hidden (simR V0 i) (hidR V0 i) j := by
  have e : (res_main_v25 V0 : Vec Ideal S4096x1x16 .f32)
      = Host.dotGeneral (φ₁ := .f32) (φ₂ := .f32) dot_S4096x1024_S4096x1x16x1024_S4096x1x16_1_3_n_12_0_0 none (res_main_v9 V0)
          (takeRows (V0 (Proc.devRef .tc main_arg5)) (res_main_call1_v5 V0)) := rfl
  rw [e]
  have ht := fun d => takeRows_apply (V0 (Proc.devRef .tc main_arg5)) (res_main_call1_v5 V0) i j d _ (downIdx_apply V0 hb i j)
  generalize takeRows (V0 (Proc.devRef .tc main_arg5)) (res_main_call1_v5 V0) = T at *
  unfold hidden hidR hiddenAll argD
  have h : ∀ d, normed (argX V0) (argG V0) i d = (res_main_v9 V0 : Vec Ideal S4096x1024 .f32) (ix2 i d) :=
    fun d => (tokens_apply V0 i d).symm
  simp only [h]
  generalize (res_main_v9 V0 : Vec Ideal S4096x1024 .f32) = X
  pointwise
  simp only [ht]

/-- The exponentials of the scores, the greatest score subtracted first. -/
theorem exps_apply (i : Fin 4096) (j : Fin 16) :
    (res_main_v40 V0 : Vec Ideal S4096x1x16 .f32) (ix3 i 0 j)
      = Ideal.exp (score (simR V0 i) j - Finset.univ.fold max ⊥ (score (simR V0 i))) := by
  have h := scores_apply V0 hb i
  unfold res_main_v40
  clean_types
  generalize (res_main_values_1 V0 : Vec Ideal S4096x1x16 .f32) = S at *
  pointwise
  simp only [h]
  rw [ofBits_negInf, max_eq_right bot_le]

/-- The softmax weights from the exponentials. -/
abbrev weightsOf (E : FVec Ideal S4096x1x16 .f32) : FVec Ideal S4096x1x16 .f32 :=
  Host.divf E (broadcastInDim S4096x1x16 ![0, 1, 2] bcast_S4096x1x1_S4096x1x16_0_1_2 (broadcastInDim S4096x1x1 ![0, 1] bcast_S4096x1_S4096x1x1_0_1 (Host.reduceAdd E (constant S_ .f32 0x00000000#32) reducesTo_S4096x1x16_S4096x1_d2 h_S_)))

/-- They are the softmax of the scores. -/
theorem weights_apply (i : Fin 4096) (j : Fin 16) :
    weightsOf (res_main_v40 V0) (ix3 i 0 j) = softmax (score (simR V0 i)) j := by
  have h := exps_apply V0 hb i
  generalize (res_main_v40 V0 : Vec Ideal S4096x1x16 .f32) = E at *
  unfold softmax
  pointwise [weightsOf]
  simp only [h]

/-- The gelu of a block of hidden values, as the reference writes it. -/
abbrev geluOf (H : FVec Ideal S4096x1x16 .f32) : FVec Ideal S4096x1x16 .f32 :=
  mulf (mulf (broadcastInDim S4096x1x16 ![] bcast_S_S4096x1x16 (constant S_ .f32 0x3F000000#32)) H) (Host.erfc (Host.divf (Host.negf H) (broadcastInDim S4096x1x16 ![] bcast_S_S4096x1x16 (Host.sqrt (constant S_ .f32 0x40000000#32)))))

omit hb in
/-- It is the gelu of the specification: the error function is odd, and dividing by a root is multiplying by its inverse. -/
theorem geluOf_apply (H : FVec Ideal S4096x1x16 .f32) (i : Fin 4096) (j : Fin 16) :
    geluOf H (ix3 i 0 j) = gelu (H (ix3 i 0 j)) := by
  have h2 : Real.sqrt 2 ≠ 0 := (Real.sqrt_pos.mpr (by norm_num)).ne'
  pointwise [geluOf]
  generalize H (ix3 i 0 j) = h
  unfold gelu
  rw [ofBits_two, Ideal.sqrt_coe, if_neg (by norm_num), Ideal.div_coe h2, one_div, EReal.neg_mul, Ideal.erfc_neg]

/-- The reference's first result. -/
theorem out_apply (i : Fin 4096) (d : Fin 1024) :
    (Host.dotGeneral (φ₁ := .f32) (φ₂ := .f32) dot_S4096x1x16_S4096x1x16x1024_S4096x1024_21_21_n_3_0_0 none
      (mulf (geluOf (res_main_v25 V0)) (weightsOf (res_main_v40 V0)))
      (takeRows (V0 (Proc.devRef .tc main_arg6)) (res_main_call2_v5 V0)) : FVec Ideal S4096x1024 .f32) (ix2 i d)
      = mix (simR V0 i) (hidR V0 i) (fun e => argU V0 e d) := by
  have ht := fun j => takeRows_apply (V0 (Proc.devRef .tc main_arg6)) (res_main_call2_v5 V0) i j d _ (upIdx_apply V0 hb i j)
  have hw := weights_apply V0 hb i
  have hg := fun j => (geluOf_apply (res_main_v25 V0) i j).trans (congrArg gelu (hidden_apply V0 hb i j))
  generalize takeRows (V0 (Proc.devRef .tc main_arg6)) (res_main_call2_v5 V0) = T at *
  generalize weightsOf (res_main_v40 V0) = W at *
  generalize geluOf (res_main_v25 V0) = A at *
  unfold mix coef argU
  pointwise
  refine Finset.sum_congr rfl fun j _ => ?_
  rw [Fintype.sum_unique]
  show A (ix3 i 0 j) * W (ix3 i 0 j) * T (ix4 i 0 j d) = _
  rw [hg, hw, ht]

/-- The reference's second result. -/
theorem kept_apply (i : Fin 4096) (j : Fin 16) :
    (shapeCast S4096x16 (res_main_v25 V0) shapeCasts_S4096x1x16_S4096x16 : FVec Ideal S4096x16 .f32) (ix2 i j)
      = hidden (simR V0 i) (hidR V0 i) j := by
  have h := hidden_apply V0 hb i j
  generalize res_main_v25 V0 = H at *
  pointwise
  exact h

/-- The reference's first result as an array. -/
theorem out_eq :
    (Host.dotGeneral (φ₁ := .f32) (φ₂ := .f32) dot_S4096x1x16_S4096x1x16x1024_S4096x1024_21_21_n_3_0_0 none
      (mulf (geluOf (res_main_v25 V0)) (weightsOf (res_main_v40 V0)))
      (takeRows (V0 (Proc.devRef .tc main_arg6)) (res_main_call2_v5 V0)) : FVec Ideal S4096x1024 .f32)
      = fun y => mix (simR V0 (y 0)) (hidR V0 (y 0)) (fun e => argU V0 e (y 1)) := by
  have h := out_apply V0 hb
  generalize (Host.dotGeneral (φ₁ := .f32) (φ₂ := .f32) dot_S4096x1x16_S4096x1x16x1024_S4096x1024_21_21_n_3_0_0 none
      (mulf (geluOf (res_main_v25 V0)) (weightsOf (res_main_v40 V0)))
      (takeRows (V0 (Proc.devRef .tc main_arg6)) (res_main_call2_v5 V0)) : FVec Ideal S4096x1024 .f32) = Z at *
  exact funext fun y => (congrArg Z (ix2_eta y)).trans (h (y 0) (y 1))

/-- The reference's second result as an array. -/
theorem kept_eq :
    (shapeCast S4096x16 (res_main_v25 V0) shapeCasts_S4096x1x16_S4096x16 : FVec Ideal S4096x16 .f32)
      = fun y => hidden (simR V0 (y 0)) (hidR V0 (y 0)) (y 1) := by
  have h := kept_apply V0 hb
  generalize (shapeCast S4096x16 (res_main_v25 V0) shapeCasts_S4096x1x16_S4096x16 : FVec Ideal S4096x16 .f32) = Z at *
  exact funext fun y => (congrArg Z (ix2_eta y)).trans (h (y 0) (y 1))

end Cert.Peer.Ref
-- ==== Proof.Algebraic.lean ====
/- The two programs side by side, from launches whose arguments agree and meet the precondition: they leave the same results. -/
module

public import proofs.«01_k».proof.Proof.Finite
public import proofs.«01_k».proof.Proof.KernelArray
public import proofs.«01_k».proof.Proof.ReferenceResults
public import proofs.«01_k».proof.Proof.Gen.ReferenceIdeal.Run

@[expose] public section

set_option maxHeartbeats 1000000

noncomputable section

namespace Cert.Peer

open Idealize.ShloMosaic Idealize.ShloMosaic.TcCoe Idealize.SL.Sem Idealize.ShloMosaic.StableHlo

/-- Under the precondition no similarity of the kernel is −∞. -/
theorem simK_ne_bot (m : (ℓ : Loc Cert.KernelIdeal.nD Cert.KernelIdeal.τ Cert.KernelIdeal.sig) → Buf (Elt Ideal) ℓ)
    (c : Dev Cert.KernelIdeal.nD) (h : Cert.Pre_KernelIdeal_finite (hPre_finite := preFacts) m) (i : Fin 4096) (k : Fin 256) :
    simK m c i k ≠ ⊥ := by
  letI := preFacts
  obtain ⟨h0, h2, h3, h4⟩ := isReal_of_pre _ _ _ _ _ _ _ (h c)
  exact (isReal_similarity (isReal_normed (fun i d => h0 (ix2 i d)) fun d => h2 (ix1 d)) (fun k d => h3 (ix2 k ⟨d.val, by omega⟩))
    (fun e d => h4 (ix4 0 e 0 d)) i k).ne_bot

/-- The two programs compute to the same values: `algebraic` under the precondition. -/
theorem algebraic : Cert.algebraic_KernelIdeal_ReferenceIdeal_pre_finite (hKernelIdeal := Cert.KernelIdeal.Gen.facts)
    (hReferenceIdeal := Cert.ReferenceIdeal.Gen.facts) (hPre_finite := preFacts) := by
  intro m ρ m' ρ' hpre hagree
  refine ⟨_, _, Cert.KernelIdeal.Value.run_blocks (F := Ideal) m ρ, ?_⟩
  refine (θ_run _ _ _).mono (fun _ h c => ?_) (Cert.ReferenceIdeal.Value.run (F := Ideal) m' ρ')
  obtain ⟨r0, r1, hargs⟩ := h c
  obtain ⟨a0, _, a2, a3, a4, a5, a6⟩ := hagree c
  have hf := simK_ne_bot m c hpre
  have eX : Ref.argX (launchContents m' c) = argX m c := funext fun i => funext fun d => congrFun a0 (ix2 i d)
  have eG : Ref.argG (launchContents m' c) = argG m c := funext fun d => congrFun a2 (ix1 d)
  have eW : Ref.argW (launchContents m' c) = argW m c := funext fun k => funext fun d => congrFun a3 (ix2 k ⟨d.val, by omega⟩)
  have eK : Ref.argK (launchContents m' c) = argK m c := funext fun e => funext fun d => congrFun a4 (ix4 0 e 0 d)
  have eD : Ref.argD (launchContents m' c) = argD m c := funext fun e => funext fun d => congrFun a5 (ix2 ⟨e.val, by omega⟩ d)
  have eU : Ref.argU (launchContents m' c) = argU m c := funext fun e => funext fun d => congrFun a6 (ix2 ⟨e.val, by omega⟩ d)
  have eS : Ref.simR (launchContents m' c) = simK m c := by
    unfold Ref.simR simK
    rw [eX, eG, eW, eK]
  have eH : Ref.hidR (launchContents m' c) = hidK m c := by
    unfold Ref.hidR hidK
    rw [eX, eG, eD]
  have hb : ∀ i k, Ref.simR (launchContents m' c) i k ≠ ⊥ := by
    rw [eS]
    exact hf
  refine ⟨?_, ?_, hargs⟩
  · refine (r0.trans (Ref.out_eq (launchContents m' c) hb)).trans (Eq.trans ?_ (final_out m c hf).symm)
    rw [eS, eH, eU]
    rfl
  · refine (r1.trans (Ref.kept_eq (launchContents m' c) hb)).trans (Eq.trans ?_ (final_hidden m c hf).symm)
    rw [eS, eH]
    rfl

end Cert.Peer
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Algebraic
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem

/-- From any launch state the kernel's program ends, its arguments unchanged and its counters at zero. -/
theorem frame_kernel : Cert.quiescent_Kernel (hKernel := Cert.Kernel.Gen.facts) :=
  fun m ρ _ => Cert.Kernel.Gen.frame m ρ

/-- So does its idealized program. -/
theorem frame_kernelIdeal : Cert.quiescent_KernelIdeal (hKernelIdeal := Cert.KernelIdeal.Gen.facts) :=
  fun m ρ _ => Cert.KernelIdeal.Gen.frame m ρ

/-- So does the reference's idealized program. -/
theorem frame_referenceIdeal : Cert.quiescent_ReferenceIdeal (hReferenceIdeal := Cert.ReferenceIdeal.Gen.facts) :=
  fun m ρ _ => (θ_run Cert.ReferenceIdeal.defs _ _).mono
    (fun r h => ⟨fun c => (h c).2.2, Idealize.ShloMosaic.sem_eq_zero_of_no_sems (by decide) r.2⟩)
    (Cert.ReferenceIdeal.Value.run (F := Ideal) m ρ)

/-- The name of the kernel's one named constant stands for 1/√2. -/
theorem preserves : Cert.preserves_Kernel_KernelIdeal :=
  IdealRules.named_const.statement Cert.KernelIdeal.κ "rsqrt2" .f32 0x3F3504F3#32 (((Real.sqrt 2)⁻¹ : ℝ) : EReal) rfl

/-- All the claims. -/
theorem claim : Cert.Claim :=
  ⟨Cert.Kernel.Gen.facts, Cert.KernelIdeal.Gen.facts, Cert.ReferenceIdeal.Gen.facts, Cert.Peer.preFacts,
    frame_kernel, frame_kernelIdeal, fun m ρ _ => frame_kernelIdeal m ρ trivial, frame_referenceIdeal,
    fun m ρ _ => frame_referenceIdeal m ρ trivial, preserves, Cert.Peer.algebraic⟩

end Cert.Proof

end
